-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_level_table [hPre_level_table : Cert.Pre_level_table.Facts] (m : (ℓ : Loc Cert.KernelIdeal.nD Cert.KernelIdeal.τ Cert.KernelIdeal.sig) → Buf (Elt Ideal) ℓ) : Prop :=
  ∀ c : Dev Cert.KernelIdeal.nD,
    (Cert.Pre_level_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_level_table [hPre_level_table : Cert.Pre_level_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_level_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_level_table [hKernelIdeal : Cert.KernelIdeal.Facts] [hPre_level_table : Cert.Pre_level_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_level_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_level_table [hReferenceIdeal : Cert.ReferenceIdeal.Facts] [hPre_level_table : Cert.Pre_level_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_level_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_level_table [hKernelIdeal : Cert.KernelIdeal.Facts] [hReferenceIdeal : Cert.ReferenceIdeal.Facts] [hPre_level_table : Cert.Pre_level_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_level_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_level_table : Cert.Pre_level_table.Facts),
    quiescent_Kernel (hKernel := hKernel)
    ∧ quiescent_KernelIdeal (hKernelIdeal := hKernelIdeal)
    ∧ quiescent_KernelIdeal_pre_level_table (hKernelIdeal := hKernelIdeal) (hPre_level_table := hPre_level_table)
    ∧ quiescent_ReferenceIdeal (hReferenceIdeal := hReferenceIdeal)
    ∧ quiescent_ReferenceIdeal_pre_level_table (hReferenceIdeal := hReferenceIdeal) (hPre_level_table := hPre_level_table)
    ∧ preserves_Kernel_KernelIdeal
    ∧ algebraic_KernelIdeal_ReferenceIdeal_pre_level_table (hKernelIdeal := hKernelIdeal) (hReferenceIdeal := hReferenceIdeal) (hPre_level_table := hPre_level_table)
-- ==== Pre_level_table.lean ====
abbrev S1024x26 : Shape := ⟨2, ![1024, 26]⟩
abbrev S26x4096 : Shape := ⟨2, ![26, 4096]⟩
abbrev S1000x4096 : Shape := ⟨2, ![1000, 4096]⟩
abbrev S1x4096 : Shape := ⟨2, ![1, 4096]⟩
abbrev S999x4096 : Shape := ⟨2, ![999, 4096]⟩
abbrev S_ : Shape := ⟨0, ![]⟩

class Facts : Prop where
  slices_S1000x4096_S1x4096_0_0 : S1000x4096.Slices ![0, 0] S1x4096
  slices_S1000x4096_S1x4096_999_0 : S1000x4096.Slices ![999, 0] S1x4096
  slices_S1000x4096_S999x4096_1_0 : S1000x4096.Slices ![1, 0] S999x4096
  concatenates_S999x4096_S1x4096_S1000x4096_d0 : Shape.Concatenates [S999x4096, S1x4096] S1000x4096 0
  bcast_S_S1000x4096 : S_.BroadcastsInDim S1000x4096 (![] : Fin 0 → Fin S1000x4096.rank)
  bcast_S1x4096_S1000x4096_0_1 : S1x4096.BroadcastsInDim S1000x4096 (![0, 1] : Fin 2 → Fin S1000x4096.rank)
  reducesTo_S1000x4096_S_d0_1 : S1000x4096.ReducesTo [0, 1] S_
  h_S_ : 0 < S_.numel

variable [Facts]

def fn_part1 {F : FTy → Type} [FloatOps F] (main_v20 : IVec S1000x4096 1) (main_c : IVec S_ 1) : IVec S_ 1 :=
  let main_v21 : IVec S_ 1 := (fun x v => Host.reduce IntOp.andi x v reducesTo_S1000x4096_S_d0_1 h_S_) main_v20 main_c
  main_v21

def fn {F : FTy → Type} [FloatOps F] (main_arg0 : FVec F S1024x26 .f32) (main_arg1 : FVec F S26x4096 .f32) (main_arg2 : FVec F S1000x4096 .f32) : IVec S_ 1 :=
  let main_v0 : FVec F S1x4096 .f32 := (extractStridedSlice S1x4096 ![0, 0] · slices_S1000x4096_S1x4096_0_0) main_arg2
  let main_v1 : FVec F S1x4096 .f32 := (extractStridedSlice S1x4096 ![999, 0] · slices_S1000x4096_S1x4096_999_0) main_arg2
  let main_v2 : FVec F S999x4096 .f32 := (extractStridedSlice S999x4096 ![1, 0] · slices_S1000x4096_S999x4096_1_0) main_arg2
  let main_v3 : FVec F S1000x4096 .f32 := (fun a b => concatenate S1000x4096 0 [⟨S999x4096, a⟩, ⟨S1x4096, b⟩] concatenates_S999x4096_S1x4096_S1000x4096_d0) main_v2 main_v1
  let main_cst : FVec F S_ .f32 := constant S_ .f32 0x3F800000#32
  let main_v4 : FVec F S1000x4096 .f32 := broadcastInDim S1000x4096 ![] bcast_S_S1000x4096 main_cst
  let main_v5 : IVec S1000x4096 1 := cmpf .oeq main_arg2 main_v4
  let main_cst_0 : FVec F S_ .f32 := constant S_ .f32 0xBF800000#32
  let main_v6 : FVec F S1000x4096 .f32 := broadcastInDim S1000x4096 ![] bcast_S_S1000x4096 main_cst_0
  let main_v7 : IVec S1000x4096 1 := cmpf .oeq main_arg2 main_v6
  let main_v8 : IVec S1000x4096 1 := ori main_v5 main_v7
  let main_v9 : FVec F S1000x4096 .f32 := broadcastInDim S1000x4096 ![0, 1] bcast_S1x4096_S1000x4096_0_1 main_v0
  let main_v10 : IVec S1000x4096 1 := cmpf .oeq main_arg2 main_v9
  let main_v11 : FVec F S1000x4096 .f32 := broadcastInDim S1000x4096 ![0, 1] bcast_S1x4096_S1000x4096_0_1 main_v1
  let main_v12 : IVec S1000x4096 1 := cmpf .oeq main_arg2 main_v11
  let main_v13 : IVec S1000x4096 1 := ori main_v10 main_v12
  let main_v14 : FVec F S1000x4096 .f32 := broadcastInDim S1000x4096 ![0, 1] bcast_S1x4096_S1000x4096_0_1 main_v0
  let main_v15 : IVec S1000x4096 1 := cmpf .oeq main_arg2 main_v14
  let main_v16 : FVec F S1000x4096 .f32 := broadcastInDim S1000x4096 ![0, 1] bcast_S1x4096_S1000x4096_0_1 main_v1
  let main_v17 : IVec S1000x4096 1 := cmpf .oeq main_v3 main_v16
  let main_v18 : IVec S1000x4096 1 := ori main_v15 main_v17
  let main_v19 : IVec S1000x4096 1 := andi main_v8 main_v13
  let main_v20 : IVec S1000x4096 1 := andi main_v19 main_v18
  let main_c : IVec S_ 1 := constantI S_ 1 1#1
  fn_part1 (F := F) main_v20 main_c
-- ==== Kernel.lean ====
abbrev S1024x26 : Shape := ⟨2, ![1024, 26]⟩
abbrev S26x4096 : Shape := ⟨2, ![26, 4096]⟩
abbrev S1000x4096 : Shape := ⟨2, ![1000, 4096]⟩
abbrev S1024x4096 : Shape := ⟨2, ![1024, 4096]⟩
abbrev S512x26 : Shape := ⟨2, ![512, 26]⟩
abbrev S26x1024 : Shape := ⟨2, ![26, 1024]⟩
abbrev S512x1024 : Shape := ⟨2, ![512, 1024]⟩
abbrev S1000x1024 : Shape := ⟨2, ![1000, 1024]⟩
abbrev S16x1024 : Shape := ⟨2, ![16, 1024]⟩
abbrev S_ : Shape := ⟨0, ![]⟩
abbrev S1x1024 : Shape := ⟨2, ![1, 1024]⟩
abbrev S1x1000 : Shape := ⟨2, ![1, 1000]⟩
abbrev S512x1 : Shape := ⟨2, ![512, 1]⟩

abbrev nBuf : Space → Nat
  | .hbm => 4
  | .vmem => 11
  | .smem => 0
  | _ => 0

abbrev bufTy : (tb : Table) → Fin (tcTables nBuf tb) → BufTy
  | .hbm, ⟨0, _⟩ => ⟨S1024x26, .f32⟩
  | .hbm, ⟨1, _⟩ => ⟨S26x4096, .f32⟩
  | .hbm, ⟨2, _⟩ => ⟨S1000x4096, .f32⟩
  | .hbm, ⟨3, _⟩ => ⟨S1024x4096, .f32⟩
  | .local _ .vmem, ⟨0, _⟩ => ⟨S512x26, .f32⟩
  | .local _ .vmem, ⟨1, _⟩ => ⟨S512x26, .f32⟩
  | .local _ .vmem, ⟨2, _⟩ => ⟨S26x1024, .f32⟩
  | .local _ .vmem, ⟨3, _⟩ => ⟨S26x1024, .f32⟩
  | .local _ .vmem, ⟨4, _⟩ => ⟨S512x1024, .f32⟩
  | .local _ .vmem, ⟨5, _⟩ => ⟨S512x1024, .f32⟩
  | .local _ .vmem, ⟨6, _⟩ => ⟨S1000x1024, .f32⟩
  | .local _ .vmem, ⟨7, _⟩ => ⟨S1000x1024, .f32⟩
  | .local _ .vmem, ⟨8, _⟩ => ⟨S16x1024, .i16⟩
  | .local _ .vmem, ⟨9, _⟩ => ⟨S26x1024, .bf16⟩
  | .local _ .vmem, ⟨10, _⟩ => ⟨S26x1024, .bf16⟩
  | _, _ => ⟨S1024x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c2_i32 : BitVec 32 := 2#32
  let c0_i32_91 : BitVec 32 := 0#32
  let v332 : BitVec 1 := Scalar.cmpi .eq c2_i32 c0_i32_91
  let c1_i32 : BitVec 32 := 1#32
  let v333 : BitVec 32 := Scalar.select v332 c1_i32 c2_i32
  let v334 : BitVec 32 := Scalar.remsi arg0 v333
  let c0_i32_93 : BitVec 32 := 0#32
  let v336 : BitVec 1 := Scalar.cmpi .slt v334 c0_i32_93
  let c0_i32_94 : BitVec 32 := 0#32
  let v337 : BitVec 1 := Scalar.cmpi .slt v333 c0_i32_94
  let v338 : BitVec 1 := Scalar.xori v336 v337
  let c0_i32_92 : BitVec 32 := 0#32
  let v335 : BitVec 1 := Scalar.cmpi .ne v334 c0_i32_92
  let v339 : BitVec 1 := Scalar.andi v338 v335
  let v340 : BitVec 32 := Scalar.addi v334 v333
  let v341 : BitVec 32 := Scalar.select v339 v340 v334
  let c0_i32_95 : BitVec 32 := 0#32
  let v342 : BitVec 1 := Scalar.cmpi .eq v341 c0_i32_95
  let v343 : BitVec 32 := Scalar.extui v342
  let c0_i32_96 : BitVec 32 := 0#32
  let v344 : BitVec 1 := Scalar.cmpi .ne v343 c0_i32_96
  v344

def k0_off1 (i : grid0.Coords) : Fin 2 → Nat :=
  let c0_i32_105 : BitVec 32 := 0#32
  let arg0 : BitVec 32 := BitVec.ofNat 32 (i 0).val
  let c1024_i32 : BitVec 32 := 1024#32
  let v358 : BitVec 32 := Scalar.muli arg0 c1024_i32
  ![0, v358.toNat]
def k0_cond4 (i : grid0.Coords) : BitVec 1 :=
  let arg0 : BitVec 32 := BitVec.ofNat 32 (i 0).val
  let c1_i32_106 : BitVec 32 := 1#32
  let v360 : BitVec 32 := Scalar.addi arg0 c1_i32_106
  let c4_i32 : BitVec 32 := 4#32
  let v361 : BitVec 1 := Scalar.cmpi .slt v360 c4_i32
  let v362 : BitVec 32 := Scalar.extui v361
  let c0_i32_107 : BitVec 32 := 0#32
  let v363 : BitVec 1 := Scalar.cmpi .ne v362 c0_i32_107
  v363

def k0_off2 (i : grid0.Coords) : Fin 2 → Nat :=
  let c0_i32_124 : BitVec 32 := 0#32
  let arg0 : BitVec 32 := BitVec.ofNat 32 (i 0).val
  let c1_i32_122 : BitVec 32 := 1#32
  let v393 : BitVec 32 := Scalar.addi arg0 c1_i32_122
  let c1024_i32_123 : BitVec 32 := 1024#32
  let v394 : BitVec 32 := Scalar.muli v393 c1024_i32_123
  ![0, v394.toNat]
def k0_cond5 (i : grid0.Coords) : BitVec 1 :=
  let arg0 : BitVec 32 := BitVec.ofNat 32 (i 0).val
  let c2_i32_97 : BitVec 32 := 2#32
  let c0_i32_98 : BitVec 32 := 0#32
  let v345 : BitVec 1 := Scalar.cmpi .eq c2_i32_97 c0_i32_98
  let c1_i32_99 : BitVec 32 := 1#32
  let v346 : BitVec 32 := Scalar.select v345 c1_i32_99 c2_i32_97
  let v347 : BitVec 32 := Scalar.remsi arg0 v346
  let c0_i32_101 : BitVec 32 := 0#32
  let v349 : BitVec 1 := Scalar.cmpi .slt v347 c0_i32_101
  let c0_i32_102 : BitVec 32 := 0#32
  let v350 : BitVec 1 := Scalar.cmpi .slt v346 c0_i32_102
  let v351 : BitVec 1 := Scalar.xori v349 v350
  let c0_i32_100 : BitVec 32 := 0#32
  let v348 : BitVec 1 := Scalar.cmpi .ne v347 c0_i32_100
  let v352 : BitVec 1 := Scalar.andi v351 v348
  let v353 : BitVec 32 := Scalar.addi v347 v346
  let v354 : BitVec 32 := Scalar.select v352 v353 v347
  let c1_i32_103 : BitVec 32 := 1#32
  let v355 : BitVec 1 := Scalar.cmpi .eq v354 c1_i32_103
  let v356 : BitVec 32 := Scalar.extui v355
  let c0_i32_104 : BitVec 32 := 0#32
  let v357 : BitVec 1 := Scalar.cmpi .ne v356 c0_i32_104
  v357

def k0_off3 (i : grid0.Coords) : Fin 2 → Nat :=
  let c0_i32_105 : BitVec 32 := 0#32
  let arg0 : BitVec 32 := BitVec.ofNat 32 (i 0).val
  let c1024_i32 : BitVec 32 := 1024#32
  let v358 : BitVec 32 := Scalar.muli arg0 c1024_i32
  ![0, v358.toNat]
def k0_cond6 (i : grid0.Coords) : BitVec 1 :=
  let arg0 : BitVec 32 := BitVec.ofNat 32 (i 0).val
  let c1_i32_106 : BitVec 32 := 1#32
  let v360 : BitVec 32 := Scalar.addi arg0 c1_i32_106
  let c4_i32 : BitVec 32 := 4#32
  let v361 : BitVec 1 := Scalar.cmpi .slt v360 c4_i32
  let v362 : BitVec 32 := Scalar.extui v361
  let c0_i32_107 : BitVec 32 := 0#32
  let v363 : BitVec 1 := Scalar.cmpi .ne v362 c0_i32_107
  v363

def k0_off4 (i : grid0.Coords) : Fin 2 → Nat :=
  let c0_i32_124 : BitVec 32 := 0#32
  let arg0 : BitVec 32 := BitVec.ofNat 32 (i 0).val
  let c1_i32_122 : BitVec 32 := 1#32
  let v393 : BitVec 32 := Scalar.addi arg0 c1_i32_122
  let c1024_i32_123 : BitVec 32 := 1024#32
  let v394 : BitVec 32 := Scalar.muli v393 c1024_i32_123
  ![0, v394.toNat]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S26x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S1024x26 : Shape := ⟨2, ![1024, 26]⟩
abbrev S26x4096 : Shape := ⟨2, ![26, 4096]⟩
abbrev S1000x4096 : Shape := ⟨2, ![1000, 4096]⟩
abbrev S_ : Shape := ⟨0, ![]⟩
abbrev S1024x26x1 : Shape := ⟨3, ![1024, 26, 1]⟩
abbrev S1 : Shape := ⟨1, ![1]⟩
abbrev S1x1x1 : Shape := ⟨3, ![1, 1, 1]⟩
abbrev S1024x26x4096 : Shape := ⟨3, ![1024, 26, 4096]⟩
abbrev S1x26x4096 : Shape := ⟨3, ![1, 26, 4096]⟩
abbrev S1024x4096 : Shape := ⟨2, ![1024, 4096]⟩

abbrev nBuf : Space → Nat
  | .hbm => 53
  | .vmem => 0
  | .smem => 0
  | _ => 0

abbrev bufTy : (tb : Table) → Fin (tcTables nBuf tb) → BufTy
  | .hbm, ⟨0, _⟩ => ⟨S1024x26, .f32⟩
  | .hbm, ⟨1, _⟩ => ⟨S26x4096, .f32⟩
  | .hbm, ⟨2, _⟩ => ⟨S1000x4096, .f32⟩
  | .hbm, ⟨3, _⟩ => ⟨S_, .f32⟩
  | .hbm, ⟨4, _⟩ => ⟨S1024x26, .f32⟩
  | .hbm, ⟨5, _⟩ => ⟨S1024x26, .f32⟩
  | .hbm, ⟨6, _⟩ => ⟨S1024x26, .f32⟩
  | .hbm, ⟨7, _⟩ => ⟨S1024x26, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x26, .i32⟩
  | .hbm, ⟨12, _⟩ => ⟨S1024x26, .i32⟩
  | .hbm, ⟨13, _⟩ => ⟨S_, .i32⟩
  | .hbm, ⟨14, _⟩ => ⟨S1024x26, .i32⟩
  | .hbm, ⟨15, _⟩ => ⟨S1024x26, .i32⟩
  | .hbm, ⟨16, _⟩ => ⟨S_, .i32⟩
  | .hbm, ⟨17, _⟩ => ⟨S1024x26, .i32⟩
  | .hbm, ⟨18, _⟩ => ⟨S1024x26, .i1⟩
  | .hbm, ⟨19, _⟩ => ⟨S_, .i32⟩
  | .hbm, ⟨20, _⟩ => ⟨S1024x26, .i32⟩
  | .hbm, ⟨21, _⟩ => ⟨S1024x26, .i32⟩
  | .hbm, ⟨22, _⟩ => ⟨S1024x26, .i32⟩
  | .hbm, ⟨23, _⟩ => ⟨S1024x26x1, .i32⟩
  | .hbm, ⟨24, _⟩ => ⟨S1, .i32⟩
  | .hbm, ⟨25, _⟩ => ⟨S_, .i32⟩
  | .hbm, ⟨26, _⟩ => ⟨S1024x26x1, .i32⟩
  | .hbm, ⟨27, _⟩ => ⟨S1024x26x1, .i1⟩
  | .hbm, ⟨28, _⟩ => ⟨S1x1x1, .i32⟩
  | .hbm, ⟨29, _⟩ => ⟨S1024x26x1, .i32⟩
  | .hbm, ⟨30, _⟩ => ⟨S1024x26x1, .i1⟩
  | .hbm, ⟨31, _⟩ => ⟨S1024x26x1, .i1⟩
  | .hbm, ⟨32, _⟩ => ⟨S_, .i1⟩
  | .hbm, ⟨33, _⟩ => ⟨S1024x26, .i1⟩
  | .hbm, ⟨34, _⟩ => ⟨S1024x26x4096, .f32⟩
  | .hbm, ⟨35, _⟩ => ⟨S1024x26x4096, .i1⟩
  | .hbm, ⟨36, _⟩ => ⟨S_, .f32⟩
  | .hbm, ⟨37, _⟩ => ⟨S1024x26x4096, .f32⟩
  | .hbm, ⟨38, _⟩ => ⟨S1024x26x4096, .f32⟩
  | .hbm, ⟨39, _⟩ => ⟨S1x26x4096, .f32⟩
  | .hbm, ⟨40, _⟩ => ⟨S1024x26x4096, .f32⟩
  | .hbm, ⟨41, _⟩ => ⟨S1024x26x4096, .f32⟩
  | .hbm, ⟨42, _⟩ => ⟨S_, .f32⟩
  | .hbm, ⟨43, _⟩ => ⟨S1024x4096, .f32⟩
  | .hbm, ⟨44, _⟩ => ⟨S_, .f32⟩
  | .hbm, ⟨45, _⟩ => ⟨S1024x4096, .f32⟩
  | .hbm, ⟨46, _⟩ => ⟨S1024x4096, .i1⟩
  | .hbm, ⟨47, _⟩ => ⟨S_, .f32⟩
  | .hbm, ⟨48, _⟩ => ⟨S_, .f32⟩
  | .hbm, ⟨49, _⟩ => ⟨S1024x4096, .f32⟩
  | .hbm, ⟨50, _⟩ => ⟨S1024x4096, .f32⟩
  | .hbm, ⟨51, _⟩ => ⟨S1024x4096, .f32⟩
  | .hbm, ⟨52, _⟩ => ⟨S1024x4096, .f32⟩
  | _, _ => ⟨S1024x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_c_0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v4 : Ref sig .tc := ⟨.hbm, 15, rfl⟩
abbrev main_call2_c : Ref sig .tc := ⟨.hbm, 16, rfl⟩
abbrev main_call2_v0 : Ref sig .tc := ⟨.hbm, 17, rfl⟩
abbrev main_call2_v1 : Ref sig .tc := ⟨.hbm, 18, rfl⟩
abbrev main_call2_c_0 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_call2_v5 : Ref sig .tc := ⟨.hbm, 23, rfl⟩
abbrev main_call2_c_1 : Ref sig .tc := ⟨.hbm, 24, rfl⟩
abbrev main_call2_c_2 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_v9 : Ref sig .tc := ⟨.hbm, 29, rfl⟩
abbrev main_call2_v10 : Ref sig .tc := ⟨.hbm, 30, rfl⟩
abbrev main_call2_v11 : Ref sig .tc := ⟨.hbm, 31, rfl⟩
abbrev main_call2_c_3 : Ref sig .tc := ⟨.hbm, 32, rfl⟩
abbrev main_call2_v12 : Ref sig .tc := ⟨.hbm, 33, rfl⟩
abbrev main_call2_v13 : Ref sig .tc := ⟨.hbm, 34, rfl⟩
abbrev main_call2_v14 : Ref sig .tc := ⟨.hbm, 35, rfl⟩
abbrev main_call2_cst : Ref sig .tc := ⟨.hbm, 36, rfl⟩
abbrev main_call2_v15 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_cst_1 : Ref sig .tc := ⟨.hbm, 42, rfl⟩
abbrev main_v9 : Ref sig .tc := ⟨.hbm, 43, rfl⟩
abbrev main_cst_2 : Ref sig .tc := ⟨.hbm, 44, rfl⟩
abbrev main_v10 : Ref sig .tc := ⟨.hbm, 45, rfl⟩
abbrev main_v11 : Ref sig .tc := ⟨.hbm, 46, rfl⟩
abbrev main_cst_3 : Ref sig .tc := ⟨.hbm, 47, rfl⟩
abbrev main_cst_4 : Ref sig .tc := ⟨.hbm, 48, rfl⟩
abbrev main_call3_v0 : Ref sig .tc := ⟨.hbm, 49, rfl⟩
abbrev main_call3_v1 : Ref sig .tc := ⟨.hbm, 50, rfl⟩
abbrev main_v12 : Ref sig .tc := ⟨.hbm, 51, rfl⟩
abbrev main_v13 : Ref sig .tc := ⟨.hbm, 52, rfl⟩

abbrev nD : Nat := 1
abbrev τ : Topo := Topo.v7x

variable {F : FTy → Type} [FloatOps F]
-- ==== Proof.Setup.lean ====
/-
  The kernel's grid points, its level table left in HBM, and the column blocks of that table which the body
  copies itself: where each copy reads, and what the contents of a staged block are.
-/
module

public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

/-! ## The branch conditions -/

/-- The body is at the very first point: both grid coordinates are zero. -/
abbrev first (i : grid0.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1

/-- Only point 0 is the first. -/
theorem first_iff : ∀ t : Fin cfg0.N, first (grid0.coords t) ↔ t.val = 0 :=
  (by decide +kernel : ∀ t : Fin grid0.N, first (grid0.coords t) ↔ t.val = 0)
/-- A column block begins at the even points. -/
theorem cond2_iff : ∀ t : Fin cfg0.N, k0_cond2 (grid0.coords t) = 1#1 ↔ t.val % 2 = 0 :=
  (by decide +kernel : ∀ t : Fin grid0.N, k0_cond2 (grid0.coords t) = 1#1 ↔ t.val % 2 = 0)
/-- The even column blocks use the first slab, -/
theorem cond3_iff : ∀ t : Fin cfg0.N, k0_cond3 (grid0.coords t) = 1#1 ↔ t.val / 2 % 2 = 0 :=
  (by decide +kernel : ∀ t : Fin grid0.N, k0_cond3 (grid0.coords t) = 1#1 ↔ t.val / 2 % 2 = 0)
/-- and start the next block's copy, the last block excepted. -/
theorem cond4_iff : ∀ t : Fin cfg0.N, k0_cond4 (grid0.coords t) = 1#1 ↔ t.val < 6 :=
  (by decide +kernel : ∀ t : Fin grid0.N, k0_cond4 (grid0.coords t) = 1#1 ↔ t.val < 6)
/-- The odd column blocks use the second slab, -/
theorem cond5_iff : ∀ t : Fin cfg0.N, k0_cond5 (grid0.coords t) = 1#1 ↔ t.val / 2 % 2 = 1 :=
  (by decide +kernel : ∀ t : Fin grid0.N, k0_cond5 (grid0.coords t) = 1#1 ↔ t.val / 2 % 2 = 1)
/-- and start the next block's copy, the last block excepted. -/
theorem cond6_iff : ∀ t : Fin cfg0.N, k0_cond6 (grid0.coords t) = 1#1 ↔ t.val < 6 :=
  (by decide +kernel : ∀ t : Fin grid0.N, k0_cond6 (grid0.coords t) = 1#1 ↔ t.val < 6)

/-! ## The column blocks of the level table -/

/-- Column block `b` lies inside the table. -/
theorem inb_src (b : Fin 4) : ∀ a, (![0, 1024 * b.val] : Fin 2 → Nat) a + S1000x1024.size a ≤ S1000x4096.size a := by
  have := b.isLt; intro a; fin_cases a <;> simp <;> omega

/-- Column block `b` of the table in HBM: columns `1024 b` to `1024 b + 1023`, every row. -/
def srcB (b : Fin 4) : Memref sig .tc .hbm S1000x1024 .f32 :=
  (Memref.whole main_arg2).slice (Rect.unit (s := S1000x4096) ![0, 1024 * b.val] S1000x1024.size (inb_src b)) (fun _ => rfl)

/-- A slice of the table at the offsets of column block `b` is that block. -/
theorem src_at {off : Fin 2 → Nat} (b : Fin 4) (h : off = ![0, 1024 * b.val])
    (inb : ∀ a, off a + S1000x1024.size a ≤ S1000x4096.size a) :
    (Memref.whole main_arg2).slice (Rect.unit (s := S1000x4096) off S1000x1024.size inb) (fun _ => rfl) = srcB b :=
  Memref.slice_unit_congr _ h _ _ (fun _ => rfl) (fun _ => rfl)

variable (c : Dev nD)

/-- Contents of the level table's buffer on core `c`. -/
abbrev Table (F : FTy → Type) (c : Dev nD) : Type := Buf (Elt F) ((Memref.whole main_arg2).view.loc (c : Thread nD τ))

/-- The elements of column block `b` when the table holds `T`. -/
def slab (T : Table F c) (b : Fin 4) : Vec F S1000x1024 .f32 := (srcB b).view.read (Elt F) T

/-! ## The table whole, and one of its column blocks under way to a slab -/

local notation "𝕄" => MT nD τ sig Unit (Elt F) ℕ (Pipeline.UD sig nD τ) ℕ

/-- The table whole at `T`; -/
abbrev wholeT (T : Table F c) : sProp 𝕄 := ((c : Thread nD τ).loc main_arg2) ↦[Finset.univ]{fullShare} T
/-- all of it but column block `b`; -/
abbrev restT (T : Table F c) (b : Fin 4) : sProp 𝕄 :=
  ((c : Thread nD τ).loc main_arg2) ↦[Finset.univ \ (srcB b).view.set]{fullShare} T
/-- column block `b`. -/
abbrev partT (T : Table F c) (b : Fin 4) : sProp 𝕄 := (srcB b).view.loc (c : Thread nD τ) ↦[(srcB b).view.set]{fullShare} T

/-- The table is a column block and the rest. -/
theorem whole_split (T : Table F c) (b : Fin 4) : wholeT c T ⊣⊢ iprop(partT c T b ∗ restT c T b) :=
  pointsTo_split_subset (Finset.subset_univ _)

/-- What a buffer holds, as the buffer of the memref `M` on core `c`. -/
abbrev BufOf (F : FTy → Type) (c : Dev nD) {sp : Space} {s : Shape} {e : EltTy} (M : Memref sig .tc sp s e) : Type :=
  Buf (Elt F) (M.view.loc (c : Thread nD τ))

/-- The memref `M`'s elements are those of `f`. -/
abbrev atBuf {s : Shape} {e : EltTy} (M : Memref sig .tc .vmem s e) (f : BufOf F c M) : sProp 𝕄 :=
  M.view.loc (c : Thread nD τ) ↦[M.view.set]{fullShare} f

/-- The contents of slab `M` once column block `b` has arrived over `f`. -/
abbrev landed (T : Table F c) (b : Fin 4) (M : Memref sig .tc .vmem S1000x1024 .f32) (f : BufOf F c M) : BufOf F c M :=
  M.view.writes (Elt F) f [⟨Rect.whole S1000x1024, ReadAs.same.apply ((srcB b).view.read (Elt F) T)⟩]

/-- Column block `b` is under way to slab `M`, to be announced on the semaphore `s`: when it has arrived the slab holds it
    and the column block is free again. -/
abbrev flight (T : Table F c) (b : Fin 4) (M : Memref sig .tc .vmem S1000x1024 .f32) (s : DmaSems sig S_) (f : BufOf F c M) :
    sProp 𝕄 :=
  Transfers.Flight countersEmb (c : Thread nD τ) (SemLoc.dma s.sem) default (M.view.amount (SemLoc.dma s.sem))
    iprop(atBuf c M (landed c T b M f) ∗ partT c T b)

/-- The transfer of column block `b` into slab `M`, together with the rest of the table. -/
abbrev inflight (T : Table F c) (b : Fin 4) (M : Memref sig .tc .vmem S1000x1024 .f32) (s : DmaSems sig S_) : sProp 𝕄 :=
  iprop(∃ f, flight c T b M s f ∗ restT c T b)

/-- A slab that no transfer is under way to: at anything, its semaphore at zero. -/
abbrev idleSlab (M : Memref sig .tc .vmem S1000x1024 .f32) (s : DmaSems sig S_) : sProp 𝕄 :=
  iprop((∃ f, atBuf (F := F) c M f) ∗ semVal ((c : Thread nD τ), SemLoc.dma s.sem) 0)

end Cert.KernelIdeal.Hand

end
-- ==== Proof.Output.lean ====
/-
  What one grid point writes to its output block, as a function of the block of inputs, the level thresholds and
  the two products of the keys with the table's end rows — and what the loads and stores of whole scratch buffers
  read and leave.
-/
module

public import proofs.«01_k».proof.Proof.Setup
public import Idealize.ShloMosaic.Lib.VecWindow

@[expose] public section

noncomputable section

namespace Cert.KernelIdeal.Hand

open Idealize.ShloMosaic Cert.KernelIdeal.Gen

variable {F : FTy → Type} [FloatOps F]

/-- What a load of the rectangle `r` returns from a buffer whose elements are `k`. -/
def ld {α : Type} {s : Shape} (k : s.Idx → α) (r : LoadRect s) : r.shape.Idx → α := fun y => k (r.idx y)

/-- A load from a whole buffer holding `X`. -/
theorem readAt_unread {sig : RefSig} {κ : Kind} {sp : Space} {s : Shape} {e : EltTy} {M : Memref sig κ sp s e}
    (h : M.IsWhole) (X : s.Idx → Elt F e) (r : LoadRect s) :
    M.view.readAt (Elt F) r (h.unread X) = ld X r := by
  funext y; rw [View.readAt_apply, h.read_unread]; rfl

/-- A load through the rectangle of the whole shape returns everything. -/
theorem ld_full {α : Type} {s : Shape} (k : s.Idx → α) {off : Fin s.rank → ℕ} (inb : ∀ a, off a + s.size a ≤ s.size a) :
    ld k (Rect.unit off s.size inb).toLoadRect = k := by
  have h0 : off = fun _ => 0 := funext fun a => by have := inb a; omega
  subst h0
  funext y
  unfold ld
  congr 1
  funext a
  apply Fin.ext
  simp [LoadRect.idx, Rect.unit, Rect.toLoadRect]

/-- A load from a buffer overwritten whole by `w`. -/
theorem readCov_full_ld {sig : RefSig} {κ : Kind} {sp : Space} {s : Shape} {e : EltTy} [∀ e, Nonempty (Elt F e)]
    (v : View sig κ sp s e) {off : Fin s.rank → ℕ} (inb : ∀ a, off a + s.size a ≤ s.size a)
    (w : (Rect.unit off s.size inb).shape.Idx → Elt F e) (r : LoadRect s) :
    v.readCov [⟨Rect.unit off s.size inb, w⟩] r = ld (s := s) w r := by
  unfold View.readCov
  funext y
  rw [View.readAt_apply, View.read_writes_full]; rfl

/-- Row `n` of a scratch buffer of 26 rows. -/
theorem inb_row (n : Fin 26) : ∀ a, (![n.val, 0] : Fin 2 → Nat) a + S1x1024.size a ≤ S26x1024.size a := by
  have := n.isLt; intro a; fin_cases a <;> simp <;> omega

/-- What a grid point stores, from the rows it loads: the inputs `x`, the thresholds `th`, the rows `h` and `l` of the two
    key products. The 26 channels are added one after another, each channel the row of `h` or of `l` as the channel's
    level reaches the threshold or not; the sign of the sum is stored. -/
def signOf (x : Vec F S512x26 .f32) (th : Vec F S1x1024 .i16) (h l : Fin 26 → Vec F S1x1024 .bf16) : FVec F S512x1024 .f32 :=
  let lev := k0_pay10 x
  let a1 := k0_pay11 x th (h 0) (l 0) (h 1) (l 1)
  let a4 := k0_pay13 lev th a1 (k0_pay12 x) (h 2) (l 2) (h 3) (l 3) (h 4) (l 4)
  let a8 := k0_pay17 lev th a4 (k0_pay14 lev th) (k0_pay15 (h 5)) (k0_pay16 (l 5))
    (h 6) (l 6) (h 7) (l 7) (h 8) (l 8)
  let a12 := k0_pay19 lev th a8 (k0_pay18 lev th) (h 9) (l 9)
    (h 10) (l 10) (h 11) (l 11) (h 12) (l 12)
  let a16 := k0_pay21 lev th a12 (k0_pay20 lev th) (h 13) (l 13)
    (h 14) (l 14) (h 15) (l 15) (h 16) (l 16)
  let a19 := k0_pay23 lev th a16 (k0_pay22 lev) (h 17) (l 17) (h 18) (l 18) (h 19) (l 19)
  let a23 := k0_pay27 lev th a19 (k0_pay24 lev th) (k0_pay25 (h 20)) (k0_pay26 (l 20))
    (h 21) (l 21) (h 22) (l 22) (h 23) (l 23)
  k0_pay1 lev th a23 (k0_pay28 lev th) (h 24) (l 24) (h 25) (l 25)

/-- The rectangle of a load of a whole buffer of shape `s`. -/
abbrev fullRect {s : Shape} (off : Fin s.rank → ℕ) (inb : ∀ a, off a + s.size a ≤ s.size a) : LoadRect s :=
  (Rect.unit (s := s) off s.size inb).toLoadRect

/-- The rectangle of a load of row `n` of the key products. -/
abbrev rowRect (n : Fin 26) : LoadRect S26x1024 := (Rect.unit (s := S26x1024) ![n.val, 0] S1x1024.size (inb_row n)).toLoadRect

/-- The rectangle of a load of the first row of the thresholds. -/
abbrev topRect : LoadRect S16x1024 := (Rect.unit (s := S16x1024) ![0, 0] S1x1024.size inb_S16x1024_S1x1024_0_0).toLoadRect

/-- The output block of a grid point as a function of what its buffers hold: the inputs, the thresholds and the two
    products of the keys. -/
def outBlock (x : Vec F S512x26 .f32) (t : Vec F S16x1024 .i16) (kh kl : Vec F S26x1024 .bf16) : FVec F S512x1024 .f32 :=
  signOf x (ld t topRect) (fun n => ld kh (rowRect n)) (fun n => ld kl (rowRect n))

/-! ## The values of a point that prepares its column block first -/

variable (c : Dev nD) (T : Table F c) (b : Fin 4)

/-- The load of a slab that column block `b` has arrived in. -/
abbrev slabLoad (M : Memref sig .tc .vmem S1000x1024 .f32) : Vec F S1000x1024 .f32 :=
  M.view.readCov [⟨Rect.whole S1000x1024, ReadAs.same.apply ((srcB b).view.read (Elt F) T)⟩]
    (fullRect ![0, 0] inb_S1000x1024_S1000x1024_0_0)

/-- It returns the column block. -/
theorem slabLoad_eq (M : Memref sig .tc .vmem S1000x1024 .f32) : slabLoad c T b M = slab c T b := by
  unfold slabLoad View.readCov
  funext y
  rw [View.readAt_apply, View.read_writes_whole]
  exact congrFun (ld_full (slab c T b) inb_S1000x1024_S1000x1024_0_0) y

/-- The load of the whole block of keys. -/
abbrev keysLoad {M : Memref sig .tc .vmem S26x1024 .f32} (h : M.IsWhole) (k : Vec F S26x1024 .f32) : Vec F S26x1024 .f32 :=
  M.view.readAt (Elt F) (fullRect ![0, 0] inb_S26x1024_S26x1024_0_0) (h.unread k)

theorem keysLoad_eq {M : Memref sig .tc .vmem S26x1024 .f32} (h : M.IsWhole) (k : Vec F S26x1024 .f32) : keysLoad h k = k := by
  unfold keysLoad; rw [readAt_unread, ld_full]

/-- What the thresholds' buffer holds after the store at the start of a column block, -/
theorem prep_t (M : Memref sig .tc .vmem S1000x1024 .f32) (A : Memref sig .tc .vmem S16x1024 .i16) (f : A.view.ty.Contents (Elt F)) :
    A.view.read (Elt F) (A.view.writes (Elt F) f
      [⟨Rect.unit (s := S16x1024) ![0, 0] S16x1024.size inb_S16x1024_S16x1024_0_0, k0_pay3 (slabLoad c T b M)⟩])
      = k0_pay3 (slab c T b) := by
  rw [View.read_writes_full, slabLoad_eq]

/-- what the buffer of the keys times the last row holds, -/
theorem prep_h (M : Memref sig .tc .vmem S1000x1024 .f32) {B : Memref sig .tc .vmem S26x1024 .f32} (hB : B.IsWhole) (k : Vec F S26x1024 .f32)
    (A : Memref sig .tc .vmem S26x1024 .bf16) (f : A.view.ty.Contents (Elt F)) :
    A.view.read (Elt F) (A.view.writes (Elt F) f
      [⟨Rect.unit (s := S26x1024) ![0, 0] S26x1024.size inb_S26x1024_S26x1024_0_0, k0_pay4 (slabLoad c T b M) (keysLoad hB k)⟩])
      = k0_pay4 (slab c T b) k := by
  rw [View.read_writes_full, slabLoad_eq, keysLoad_eq]

/-- and what the buffer of the keys times the first row holds. -/
theorem prep_l (M : Memref sig .tc .vmem S1000x1024 .f32) {B : Memref sig .tc .vmem S26x1024 .f32} (hB : B.IsWhole) (k : Vec F S26x1024 .f32)
    (A : Memref sig .tc .vmem S26x1024 .bf16) (f : A.view.ty.Contents (Elt F)) :
    A.view.read (Elt F) (A.view.writes (Elt F) f
      [⟨Rect.unit (s := S26x1024) ![0, 0] S26x1024.size inb_S26x1024_S26x1024_0_0, k0_pay5 (slabLoad c T b M) (keysLoad hB k)⟩])
      = k0_pay5 (slab c T b) k := by
  rw [View.read_writes_full, slabLoad_eq, keysLoad_eq]

/-- The output buffer after a point that loads what earlier points left in the three buffers, -/
theorem out_kept {M3 : Memref sig .tc .vmem S512x26 .f32} (h3 : M3.IsWhole) (M5 : Memref sig .tc .vmem S512x1024 .f32)
    {M8 : Memref sig .tc .vmem S16x1024 .i16} (h8 : M8.IsWhole) {M9 M10 : Memref sig .tc .vmem S26x1024 .bf16} (h9 : M9.IsWhole) (h10 : M10.IsWhole)
    (x : Vec F S512x26 .f32) (t : Vec F S16x1024 .i16) (kh kl : Vec F S26x1024 .bf16) (f : M5.view.ty.Contents (Elt F)) :
    M5.view.read (Elt F) (M5.view.writes (Elt F) f [⟨Rect.unit (s := S512x1024) ![0, 0] S512x1024.size inb_S512x1024_S512x1024_0_0,
      signOf (M3.view.readAt (Elt F) (fullRect ![0, 0] inb_S512x26_S512x26_0_0) (h3.unread x)) (M8.view.readAt (Elt F) topRect (h8.unread t))
        (fun n => M9.view.readAt (Elt F) (rowRect n) (h9.unread kh)) (fun n => M10.view.readAt (Elt F) (rowRect n) (h10.unread kl))⟩])
      = outBlock x t kh kl := by
  rw [View.read_writes_full]
  simp only [readAt_unread]
  rw [ld_full, outBlock]

/-- and after a point that fills them first. -/
theorem out_prep {M3 : Memref sig .tc .vmem S512x26 .f32} (h3 : M3.IsWhole) {M4 : Memref sig .tc .vmem S26x1024 .f32} (h4 : M4.IsWhole)
    (M5 : Memref sig .tc .vmem S512x1024 .f32) (M : Memref sig .tc .vmem S1000x1024 .f32)
    (M8 : Memref sig .tc .vmem S16x1024 .i16) (M9 M10 : Memref sig .tc .vmem S26x1024 .bf16)
    (x : Vec F S512x26 .f32) (k : Vec F S26x1024 .f32) (f : M5.view.ty.Contents (Elt F)) :
    M5.view.read (Elt F) (M5.view.writes (Elt F) f [⟨Rect.unit (s := S512x1024) ![0, 0] S512x1024.size inb_S512x1024_S512x1024_0_0,
      signOf (M3.view.readAt (Elt F) (fullRect ![0, 0] inb_S512x26_S512x26_0_0) (h3.unread x))
        (M8.view.readCov [⟨Rect.unit (s := S16x1024) ![0, 0] S16x1024.size inb_S16x1024_S16x1024_0_0, k0_pay3 (slabLoad c T b M)⟩] topRect)
        (fun n => M9.view.readCov [⟨Rect.unit (s := S26x1024) ![0, 0] S26x1024.size inb_S26x1024_S26x1024_0_0,
          k0_pay4 (slabLoad c T b M) (keysLoad h4 k)⟩] (rowRect n))
        (fun n => M10.view.readCov [⟨Rect.unit (s := S26x1024) ![0, 0] S26x1024.size inb_S26x1024_S26x1024_0_0,
          k0_pay5 (slabLoad c T b M) (keysLoad h4 k)⟩] (rowRect n))⟩])
      = outBlock x (k0_pay3 (slab c T b)) (k0_pay4 (slab c T b) k) (k0_pay5 (slab c T b) k) := by
  rw [View.read_writes_full, readAt_unread, ld_full, slabLoad_eq, keysLoad_eq, readCov_full_ld]
  exact congrArg₂ (signOf x _) (funext fun n => readCov_full_ld _ _ _ _) (funext fun n => readCov_full_ld _ _ _ _)

end Cert.KernelIdeal.Hand

end
-- ==== Proof.Run.lean ====
/-
  The body of the kernel, run once through in each of its five cases: a point in the middle of a column block, and the
  points that begin one — the first point of all, an even block, an odd block with another one to follow, and the last.
  Each leaves `outBlock` of what its buffers hold in the output block, and, beginning a column block, the
  thresholds and the key products of that block in the scratch buffers.
-/
module

public import proofs.«01_k».proof.Proof.Output

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (c : Dev nD) (i : grid0.Coords)
  (arg3 : Memref sig .tc .vmem S512x26 .f32) (harg3 : arg3.IsWhole) (arg4 : Memref sig .tc .vmem S26x1024 .f32) (harg4 : arg4.IsWhole)
  (arg5 : Memref sig .tc .vmem S512x1024 .f32) (harg5 : arg5.IsWhole)
  (arg6 : Memref sig .tc .vmem S1000x1024 .f32) (harg6 : arg6.IsWhole) (arg7 : Memref sig .tc .vmem S1000x1024 .f32) (harg7 : arg7.IsWhole)
  (arg8 : Memref sig .tc .vmem S16x1024 .i16) (harg8 : arg8.IsWhole)
  (arg9 : Memref sig .tc .vmem S26x1024 .bf16) (harg9 : arg9.IsWhole) (arg10 : Memref sig .tc .vmem S26x1024 .bf16) (harg10 : arg10.IsWhole)
  (arg11 arg12 : DmaSems sig S_)

/-- The call of the body at the point `i`. -/
abbrev call : Prog (TpuEff nD τ sig (Elt F) Λ₀ .tc) PUnit :=
  cc0__fused_kernel i (Memref.whole main_arg2) (Memref.isWhole_whole _) arg3 harg3 arg4 harg4 arg5 harg5 arg6 harg6 arg7 harg7
    arg8 harg8 arg9 harg9 arg10 harg10 arg11 arg12

/-- What the three scratch buffers hold once column block `b` is prepared, the keys of that block being `k`. -/
abbrev prepared (T : Table F c) (b : Fin 4) (k : Vec F S26x1024 .f32) : sProp 𝕄 :=
  iprop(owns (c : Thread nD τ) arg8 fullShare (k0_pay3 (slab c T b)) ∗ owns (c : Thread nD τ) arg9 fullShare (k0_pay4 (slab c T b) k)
    ∗ owns (c : Thread nD τ) arg10 fullShare (k0_pay5 (slab c T b) k))

/-- The output block of a point inside column block `b`. -/
abbrev outOf (T : Table F c) (b : Fin 4) (x : Vec F S512x26 .f32) (k : Vec F S26x1024 .f32) : FVec F S512x1024 .f32 :=
  outBlock x (k0_pay3 (slab c T b)) (k0_pay4 (slab c T b) k) (k0_pay5 (slab c T b) k)

set_option maxHeartbeats 1000000 in
/-- A point inside a column block: nothing is prepared, the buffers keep what they hold. -/
theorem run_inside
    (h1 : ¬first i) (h2 : ¬k0_cond2 i = 1#1)
    (x : Vec F S512x26 .f32) (tt : Vec F S16x1024 .i16) (kh kl : Vec F S26x1024 .bf16) :
      ∀ (W : Waits sig Unit) (K : PUnit → sProp 𝕄),
        iprop(owns (c : Thread nD τ) arg3 fullShare x ∗ (∃ d, owns (c : Thread nD τ) arg5 fullShare d)
            ∗ owns (c : Thread nD τ) arg8 fullShare tt ∗ owns (c : Thread nD τ) arg9 fullShare kh ∗ owns (c : Thread nD τ) arg10 fullShare kl
            ∗ owes (c : Thread nD τ) 0 W
            ∗ (iprop(owns (c : Thread nD τ) arg3 fullShare x ∗ owns (c : Thread nD τ) arg5 fullShare (outBlock x tt kh kl)
            ∗ owns (c : Thread nD τ) arg8 fullShare tt ∗ owns (c : Thread nD τ) arg9 fullShare kh ∗ owns (c : Thread nD τ) arg10 fullShare kl
            ∗ owes (c : Thread nD τ) 0 W) -∗ K ⟨⟩))
          ⊢ wp frame (wpE (defs₀ (F := F)) Variants.none c none) Set.univ
            (call i arg3 harg3 arg4 harg4 arg5 harg5 arg6 harg6 arg7 harg7 arg8 harg8 arg9 harg9 arg10 harg10 arg11 arg12) K := by
    intro W K
    unfold call; simp only [cc0__fused_kernel_eq_skeleton]; unfold cc0__fused_kernel_skel
    simp only [k0_part1_eq_skeleton, k0_part2_eq_skeleton, k0_part3_eq_skeleton, k0_part4_eq_skeleton, k0_part5_eq_skeleton,
      k0_part6_eq_skeleton, k0_part7_eq_skeleton]
    unfold owns
    iintro ⟨⟨%f0, %hf0, H0⟩, ⟨%d2, %f2, -, H2⟩, ⟨%fs1, %hfs1, HS1⟩, ⟨%fs2, %hfs2, HS2⟩, ⟨%fs3, %hfs3, HS3⟩, HW, Hk⟩
    obtain rfl := harg3.eq_unread hf0
    obtain rfl := harg8.eq_unread hfs1; obtain rfl := harg9.eq_unread hfs2; obtain rfl := harg10.eq_unread hfs3
    sl_exec (disch := first | sl_exact h1 | sl_exact h2)
    sl_step
    iapply Hk
    isplitl [H0]
    · iexists _; isplitr; · ipureintro; exact harg3.read_unread _
      iexact H0
    isplitl [H2]
    · iexists _; isplitr; swap; · iexact H2
      ipureintro
      exact out_kept harg3 arg5 harg8 harg9 harg10 x tt kh kl f2
    isplitl [HS1]
    · iexists _; isplitr; · ipureintro; exact harg8.read_unread _
      iexact HS1
    isplitl [HS2]
    · iexists _; isplitr; · ipureintro; exact harg9.read_unread _
      iexact HS2
    isplitl [HS3]
    · iexists _; isplitr; · ipureintro; exact harg10.read_unread _
      iexact HS3
    iexact HW

set_option maxHeartbeats 1000000 in
/-- The first point: the first block's copy is started and awaited in the first slab, and the next block's is started into
    the second. -/
theorem run_first
    (b b' : Fin 4) (h1 : first i) (h2 : k0_cond2 i = 1#1) (h3 : k0_cond3 i = 1#1) (h4 : k0_cond4 i = 1#1) (h5 : ¬k0_cond5 i = 1#1)
    (hb : (![0, 0] : Fin 2 → Nat) = ![0, 1024 * b.val]) (ho1 : k0_off1 i = ![0, 1024 * b.val]) (ho2 : k0_off2 i = ![0, 1024 * b'.val])
    (x : Vec F S512x26 .f32) (k : Vec F S26x1024 .f32) (T : Table F c) :
      ∀ (W : Waits sig Unit) (K : PUnit → sProp 𝕄),
        iprop(owns (c : Thread nD τ) arg3 fullShare x ∗ owns (c : Thread nD τ) arg4 fullShare k ∗ (∃ d, owns (c : Thread nD τ) arg5 fullShare d)
            ∗ (∃ d, owns (c : Thread nD τ) arg8 fullShare d) ∗ (∃ d, owns (c : Thread nD τ) arg9 fullShare d) ∗ (∃ d, owns (c : Thread nD τ) arg10 fullShare d)
            ∗ (wholeT c T ∗ idleSlab (F := F) c arg6 arg11 ∗ idleSlab (F := F) c arg7 arg12) ∗ owes (c : Thread nD τ) 0 W
            ∗ (iprop(owns (c : Thread nD τ) arg3 fullShare x ∗ owns (c : Thread nD τ) arg4 fullShare k
            ∗ owns (c : Thread nD τ) arg5 fullShare (outOf c T b x k) ∗ prepared c arg8 arg9 arg10 T b k
            ∗ (inflight c T b' arg7 arg12 ∗ idleSlab (F := F) c arg6 arg11) ∗ (∃ W', owes (c : Thread nD τ) 0 W')) -∗ K ⟨⟩))
          ⊢ wp frame (wpE (defs₀ (F := F)) Variants.none c none) Set.univ
            (call i arg3 harg3 arg4 harg4 arg5 harg5 arg6 harg6 arg7 harg7 arg8 harg8 arg9 harg9 arg10 harg10 arg11 arg12) K := by
    intro W K
    unfold call; simp only [cc0__fused_kernel_eq_skeleton]; unfold cc0__fused_kernel_skel
    simp only [k0_part1_eq_skeleton, k0_part2_eq_skeleton, k0_part3_eq_skeleton, k0_part4_eq_skeleton, k0_part5_eq_skeleton,
      k0_part6_eq_skeleton, k0_part7_eq_skeleton]
    have hcanon0 := src_at b hb inb_S1000x4096_S1000x1024_0_0
    have hcanon1 := src_at b ho1 (k0_off1_inb i h2 h3)
    have hcanon2 := src_at b' ho2 (k0_off2_inb i h2 h3 h4)
    unfold prepared owns
    iintro ⟨⟨%f0, %hf0, H0⟩, ⟨%f1, %hf1, H1⟩, ⟨%d2, %f2, -, H2⟩, ⟨%ds1, %fs1, -, HS1⟩, ⟨%ds2, %fs2, -, HS2⟩, ⟨%ds3, %fs3, -, HS3⟩, ⟨HT, ⟨⟨%ff, Hfi⟩, Hf⟩, ⟨⟨%fi, Hi⟩, Hc⟩⟩, HW, Hk⟩
    obtain rfl := harg3.eq_unread hf0; obtain rfl := harg4.eq_unread hf1
    ihave HT0 := (whole_split c T b).1 $$ HT
    icases HT0 with ⟨Hs0, Hr⟩
    sl_exec (disch := first | sl_exact h1 | sl_exact h2 | sl_exact h3 | sl_exact h4 | sl_exact h5)
    ihave HT := (whole_split c T b).2 $$ [Hs0 Hr]
    · isplitl [Hs0]; · iexact Hs0
      iexact Hr
    ihave HT' := (whole_split c T b').1 $$ HT
    icases HT' with ⟨Hs, Hr'⟩
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro; exact out_prep c T b harg3 harg4 arg5 arg6 arg8 arg9 arg10 x k f2
    isplitl [HS1 HS2 HS3]
    · isplitl [HS1]
      · iexists _; isplitr; swap; · iexact HS1
        ipureintro; exact prep_t c T b arg6 arg8 fs1
      isplitl [HS2]
      · iexists _; isplitr; swap; · iexact HS2
        ipureintro; exact prep_h c T b arg6 harg4 k arg9 fs2
      · iexists _; isplitr; swap; · iexact HS3
        ipureintro; exact prep_l c T b arg6 harg4 k arg10 fs3
    isplitl [Hc Hr' Hfi Hf]
    · isplitl [Hc Hr']
      · iexists fi
        isplitl [Hc]; · iexact Hc
        iexact Hr'
      isplitl [Hfi]; · iexists _; iexact Hfi
      iexact Hf
    iexists _; iexact HW

set_option maxHeartbeats 1000000 in
/-- An even column block, the first excepted: its copy is awaited in the first slab, and the next block's is started into
    the second. -/
theorem run_even
    (b b' : Fin 4) (h1 : ¬first i) (h2 : k0_cond2 i = 1#1) (h3 : k0_cond3 i = 1#1) (h4 : k0_cond4 i = 1#1) (h5 : ¬k0_cond5 i = 1#1)
    (ho1 : k0_off1 i = ![0, 1024 * b.val]) (ho2 : k0_off2 i = ![0, 1024 * b'.val])
    (x : Vec F S512x26 .f32) (k : Vec F S26x1024 .f32) (T : Table F c) :
      ∀ (W : Waits sig Unit) (K : PUnit → sProp 𝕄),
        iprop(owns (c : Thread nD τ) arg3 fullShare x ∗ owns (c : Thread nD τ) arg4 fullShare k ∗ (∃ d, owns (c : Thread nD τ) arg5 fullShare d)
            ∗ (∃ d, owns (c : Thread nD τ) arg8 fullShare d) ∗ (∃ d, owns (c : Thread nD τ) arg9 fullShare d) ∗ (∃ d, owns (c : Thread nD τ) arg10 fullShare d)
            ∗ (inflight c T b arg6 arg11 ∗ idleSlab (F := F) c arg7 arg12) ∗ owes (c : Thread nD τ) 0 W
            ∗ (iprop(owns (c : Thread nD τ) arg3 fullShare x ∗ owns (c : Thread nD τ) arg4 fullShare k
            ∗ owns (c : Thread nD τ) arg5 fullShare (outOf c T b x k) ∗ prepared c arg8 arg9 arg10 T b k
            ∗ (inflight c T b' arg7 arg12 ∗ idleSlab (F := F) c arg6 arg11) ∗ (∃ W', owes (c : Thread nD τ) 0 W')) -∗ K ⟨⟩))
          ⊢ wp frame (wpE (defs₀ (F := F)) Variants.none c none) Set.univ
            (call i arg3 harg3 arg4 harg4 arg5 harg5 arg6 harg6 arg7 harg7 arg8 harg8 arg9 harg9 arg10 harg10 arg11 arg12) K := by
    intro W K
    unfold call; simp only [cc0__fused_kernel_eq_skeleton]; unfold cc0__fused_kernel_skel
    simp only [k0_part1_eq_skeleton, k0_part2_eq_skeleton, k0_part3_eq_skeleton, k0_part4_eq_skeleton, k0_part5_eq_skeleton,
      k0_part6_eq_skeleton, k0_part7_eq_skeleton]
    have hcanon1 := src_at b ho1 (k0_off1_inb i h2 h3)
    have hcanon2 := src_at b' ho2 (k0_off2_inb i h2 h3 h4)
    unfold prepared owns
    iintro ⟨⟨%f0, %hf0, H0⟩, ⟨%f1, %hf1, H1⟩, ⟨%d2, %f2, -, H2⟩, ⟨%ds1, %fs1, -, HS1⟩, ⟨%ds2, %fs2, -, HS2⟩, ⟨%ds3, %fs3, -, HS3⟩, ⟨⟨%ff, Hf, Hr⟩, ⟨⟨%fi, Hi⟩, Hc⟩⟩, HW, Hk⟩
    obtain rfl := harg3.eq_unread hf0; obtain rfl := harg4.eq_unread hf1
    sl_exec (disch := first | sl_exact h1 | sl_exact h2 | sl_exact h3 | sl_exact h4 | sl_exact h5)
    ihave HT := (whole_split c T b).2 $$ [Hf_src Hr]
    · isplitl [Hf_src]; · iexact Hf_src
      iexact Hr
    ihave HT' := (whole_split c T b').1 $$ HT
    icases HT' with ⟨Hs, Hr'⟩
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro; exact out_prep c T b harg3 harg4 arg5 arg6 arg8 arg9 arg10 x k f2
    isplitl [HS1 HS2 HS3]
    · isplitl [HS1]
      · iexists _; isplitr; swap; · iexact HS1
        ipureintro; exact prep_t c T b arg6 arg8 fs1
      isplitl [HS2]
      · iexists _; isplitr; swap; · iexact HS2
        ipureintro; exact prep_h c T b arg6 harg4 k arg9 fs2
      · iexists _; isplitr; swap; · iexact HS3
        ipureintro; exact prep_l c T b arg6 harg4 k arg10 fs3
    isplitl [Hc Hr' Hf_dst Hf]
    · isplitl [Hc Hr']
      · iexists fi
        isplitl [Hc]; · iexact Hc
        iexact Hr'
      isplitl [Hf_dst]; · iexists _; iexact Hf_dst
      iexact Hf
    iexists _; iexact HW

set_option maxHeartbeats 1000000 in
/-- An odd column block with another to follow: its copy is awaited in the second slab, and the next block's is started
    into the first. -/
theorem run_odd
    (b b' : Fin 4) (h1 : ¬first i) (h2 : k0_cond2 i = 1#1) (h3 : ¬k0_cond3 i = 1#1) (h5 : k0_cond5 i = 1#1) (h6 : k0_cond6 i = 1#1)
    (ho1 : k0_off3 i = ![0, 1024 * b.val]) (ho2 : k0_off4 i = ![0, 1024 * b'.val])
    (x : Vec F S512x26 .f32) (k : Vec F S26x1024 .f32) (T : Table F c) :
      ∀ (W : Waits sig Unit) (K : PUnit → sProp 𝕄),
        iprop(owns (c : Thread nD τ) arg3 fullShare x ∗ owns (c : Thread nD τ) arg4 fullShare k ∗ (∃ d, owns (c : Thread nD τ) arg5 fullShare d)
            ∗ (∃ d, owns (c : Thread nD τ) arg8 fullShare d) ∗ (∃ d, owns (c : Thread nD τ) arg9 fullShare d) ∗ (∃ d, owns (c : Thread nD τ) arg10 fullShare d)
            ∗ (inflight c T b arg7 arg12 ∗ idleSlab (F := F) c arg6 arg11) ∗ owes (c : Thread nD τ) 0 W
            ∗ (iprop(owns (c : Thread nD τ) arg3 fullShare x ∗ owns (c : Thread nD τ) arg4 fullShare k
            ∗ owns (c : Thread nD τ) arg5 fullShare (outOf c T b x k) ∗ prepared c arg8 arg9 arg10 T b k
            ∗ (inflight c T b' arg6 arg11 ∗ idleSlab (F := F) c arg7 arg12) ∗ (∃ W', owes (c : Thread nD τ) 0 W')) -∗ K ⟨⟩))
          ⊢ wp frame (wpE (defs₀ (F := F)) Variants.none c none) Set.univ
            (call i arg3 harg3 arg4 harg4 arg5 harg5 arg6 harg6 arg7 harg7 arg8 harg8 arg9 harg9 arg10 harg10 arg11 arg12) K := by
    intro W K
    unfold call; simp only [cc0__fused_kernel_eq_skeleton]; unfold cc0__fused_kernel_skel
    simp only [k0_part1_eq_skeleton, k0_part2_eq_skeleton, k0_part3_eq_skeleton, k0_part4_eq_skeleton, k0_part5_eq_skeleton,
      k0_part6_eq_skeleton, k0_part7_eq_skeleton]
    have hcanon1 := src_at b ho1 (k0_off3_inb i h2 h5)
    have hcanon2 := src_at b' ho2 (k0_off4_inb i h2 h5 h6)
    unfold prepared owns
    iintro ⟨⟨%f0, %hf0, H0⟩, ⟨%f1, %hf1, H1⟩, ⟨%d2, %f2, -, H2⟩, ⟨%ds1, %fs1, -, HS1⟩, ⟨%ds2, %fs2, -, HS2⟩, ⟨%ds3, %fs3, -, HS3⟩, ⟨⟨%ff, Hf, Hr⟩, ⟨⟨%fi, Hi⟩, Hc⟩⟩, HW, Hk⟩
    obtain rfl := harg3.eq_unread hf0; obtain rfl := harg4.eq_unread hf1
    sl_exec (disch := first | sl_exact h1 | sl_exact h2 | sl_exact h3 | sl_exact h5 | sl_exact h6)
    ihave HT := (whole_split c T b).2 $$ [Hf_src Hr]
    · isplitl [Hf_src]; · iexact Hf_src
      iexact Hr
    ihave HT' := (whole_split c T b').1 $$ HT
    icases HT' with ⟨Hs, Hr'⟩
    sl_exec (disch := first | sl_exact h1 | sl_exact h2 | sl_exact h3 | sl_exact h5 | sl_exact h6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro; exact out_prep c T b harg3 harg4 arg5 arg7 arg8 arg9 arg10 x k f2
    isplitl [HS1 HS2 HS3]
    · isplitl [HS1]
      · iexists _; isplitr; swap; · iexact HS1
        ipureintro; exact prep_t c T b arg7 arg8 fs1
      isplitl [HS2]
      · iexists _; isplitr; swap; · iexact HS2
        ipureintro; exact prep_h c T b arg7 harg4 k arg9 fs2
      · iexists _; isplitr; swap; · iexact HS3
        ipureintro; exact prep_l c T b arg7 harg4 k arg10 fs3
    isplitl [Hc Hr' Hf_dst Hf]
    · isplitl [Hc Hr']
      · iexists fi
        isplitl [Hc]; · iexact Hc
        iexact Hr'
      isplitl [Hf_dst]; · iexists _; iexact Hf_dst
      iexact Hf
    iexists _; iexact HW

set_option maxHeartbeats 1000000 in
/-- The last column block: its copy is awaited in the second slab, and no other is started. -/
theorem run_last
    (b : Fin 4) (h1 : ¬first i) (h2 : k0_cond2 i = 1#1) (h3 : ¬k0_cond3 i = 1#1) (h5 : k0_cond5 i = 1#1) (h6 : ¬k0_cond6 i = 1#1)
    (ho1 : k0_off3 i = ![0, 1024 * b.val])
    (x : Vec F S512x26 .f32) (k : Vec F S26x1024 .f32) (T : Table F c) :
      ∀ (W : Waits sig Unit) (K : PUnit → sProp 𝕄),
        iprop(owns (c : Thread nD τ) arg3 fullShare x ∗ owns (c : Thread nD τ) arg4 fullShare k ∗ (∃ d, owns (c : Thread nD τ) arg5 fullShare d)
            ∗ (∃ d, owns (c : Thread nD τ) arg8 fullShare d) ∗ (∃ d, owns (c : Thread nD τ) arg9 fullShare d) ∗ (∃ d, owns (c : Thread nD τ) arg10 fullShare d)
            ∗ (inflight c T b arg7 arg12 ∗ idleSlab (F := F) c arg6 arg11) ∗ owes (c : Thread nD τ) 0 W
            ∗ (iprop(owns (c : Thread nD τ) arg3 fullShare x ∗ owns (c : Thread nD τ) arg4 fullShare k
            ∗ owns (c : Thread nD τ) arg5 fullShare (outOf c T b x k) ∗ prepared c arg8 arg9 arg10 T b k
            ∗ (wholeT c T ∗ idleSlab (F := F) c arg6 arg11 ∗ idleSlab (F := F) c arg7 arg12) ∗ (∃ W', owes (c : Thread nD τ) 0 W')) -∗ K ⟨⟩))
          ⊢ wp frame (wpE (defs₀ (F := F)) Variants.none c none) Set.univ
            (call i arg3 harg3 arg4 harg4 arg5 harg5 arg6 harg6 arg7 harg7 arg8 harg8 arg9 harg9 arg10 harg10 arg11 arg12) K := by
    intro W K
    unfold call; simp only [cc0__fused_kernel_eq_skeleton]; unfold cc0__fused_kernel_skel
    simp only [k0_part1_eq_skeleton, k0_part2_eq_skeleton, k0_part3_eq_skeleton, k0_part4_eq_skeleton, k0_part5_eq_skeleton,
      k0_part6_eq_skeleton, k0_part7_eq_skeleton]
    have hcanon1 := src_at b ho1 (k0_off3_inb i h2 h5)
    unfold prepared owns
    iintro ⟨⟨%f0, %hf0, H0⟩, ⟨%f1, %hf1, H1⟩, ⟨%d2, %f2, -, H2⟩, ⟨%ds1, %fs1, -, HS1⟩, ⟨%ds2, %fs2, -, HS2⟩, ⟨%ds3, %fs3, -, HS3⟩, ⟨⟨%ff, Hf, Hr⟩, ⟨⟨%fi, Hi⟩, Hc⟩⟩, HW, Hk⟩
    obtain rfl := harg3.eq_unread hf0; obtain rfl := harg4.eq_unread hf1
    sl_exec (disch := first | sl_exact h1 | sl_exact h2 | sl_exact h3 | sl_exact h5 | sl_exact h6)
    ihave HT := (whole_split c T b).2 $$ [Hf_src Hr]
    · isplitl [Hf_src]; · iexact Hf_src
      iexact Hr
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro; exact out_prep c T b harg3 harg4 arg5 arg7 arg8 arg9 arg10 x k f2
    isplitl [HS1 HS2 HS3]
    · isplitl [HS1]
      · iexists _; isplitr; swap; · iexact HS1
        ipureintro; exact prep_t c T b arg7 arg8 fs1
      isplitl [HS2]
      · iexists _; isplitr; swap; · iexact HS2
        ipureintro; exact prep_h c T b arg7 harg4 k arg9 fs2
      · iexists _; isplitr; swap; · iexact HS3
        ipureintro; exact prep_l c T b arg7 harg4 k arg10 fs3
    isplitl [HT Hi Hc Hf_dst Hf]
    · isplitl [HT]; · iexact HT
      isplitl [Hi Hc]
      · isplitl [Hi]; · iexists _; iexact Hi
        iexact Hc
      isplitl [Hf_dst]; · iexists _; iexact Hf_dst
      iexact Hf
    iexists _; iexact HW

end Cert.KernelIdeal.Hand

end
-- ==== Proof.Body.lean ====
/-
  The invariant of the kernel's grid and the body at each of its eight points. Before a point the next column block of
  the table is on its way to one slab, the other slab is free, and the scratch buffers hold the thresholds and key
  products of the column block the last point belonged to.
-/
module

public import proofs.«01_k».proof.Proof.Run

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (c : Dev nD)

/-! ## Where the copies read -/

theorem off1_eq : ∀ t : Fin cfg0.N, k0_off1 (grid0.coords t) = ![0, 1024 * (t.val / 2)] :=
  (by decide +kernel : ∀ t : Fin grid0.N, k0_off1 (grid0.coords t) = ![0, 1024 * (t.val / 2)])
theorem off2_eq : ∀ t : Fin cfg0.N, k0_off2 (grid0.coords t) = ![0, 1024 * (t.val / 2 + 1)] :=
  (by decide +kernel : ∀ t : Fin grid0.N, k0_off2 (grid0.coords t) = ![0, 1024 * (t.val / 2 + 1)])
theorem off3_eq : ∀ t : Fin cfg0.N, k0_off3 (grid0.coords t) = ![0, 1024 * (t.val / 2)] :=
  (by decide +kernel : ∀ t : Fin grid0.N, k0_off3 (grid0.coords t) = ![0, 1024 * (t.val / 2)])
theorem off4_eq : ∀ t : Fin cfg0.N, k0_off4 (grid0.coords t) = ![0, 1024 * (t.val / 2 + 1)] :=
  (by decide +kernel : ∀ t : Fin grid0.N, k0_off4 (grid0.coords t) = ![0, 1024 * (t.val / 2 + 1)])

/-! ## What the buffers hold before a point -/

/-- The column block point `p` belongs to, -/
def blkOf (p : ℕ) : Fin 4 := ⟨p / 2 % 4, Nat.mod_lt _ (by decide)⟩
/-- and the first point of that column block. -/
def startOf (p : ℕ) : Fin cfg0.N := ⟨p / 2 * 2 % 8, lt_of_lt_of_eq (Nat.mod_lt _ (by decide)) N_0.symm⟩

/-- The level table as launched. -/
abbrev table : Table F c := V m c main_arg2

/-- The block of output that point `t` writes. -/
def outAt (t : Fin cfg0.N) : FVec F S512x1024 .f32 :=
  outOf c (table m c) (blkOf t.val) (iblk m c 0 t) (iblk m c 1 (startOf t.val))

abbrev slab0 : Memref sig .tc .vmem S1000x1024 .f32 := Memref.whole cc0_scratch0
abbrev slab1 : Memref sig .tc .vmem S1000x1024 .f32 := Memref.whole cc0_scratch1
abbrev thr : Memref sig .tc .vmem S16x1024 .i16 := Memref.whole cc0_scratch2
abbrev keyH : Memref sig .tc .vmem S26x1024 .bf16 := Memref.whole cc0_scratch3
abbrev keyL : Memref sig .tc .vmem S26x1024 .bf16 := Memref.whole cc0_scratch4

/-- The three scratch buffers before point `n`: anything at first, afterwards what the last point's column block needs. -/
def scratchAt : ℕ → sProp 𝕄
  | 0 => iprop((∃ d, owns (c : Thread nD τ) thr fullShare d) ∗ (∃ d, owns (c : Thread nD τ) keyH fullShare d)
      ∗ (∃ d, owns (c : Thread nD τ) keyL fullShare d))
  | p + 1 => prepared c thr keyH keyL (table m c) (blkOf p) (iblk m c 1 (startOf p))

/-- The two slabs and the table after `k` copies have been awaited. -/
def ringAt : ℕ → sProp 𝕄
  | 1 => iprop(inflight c (table m c) 1 slab1 cc0_scratch6 ∗ idleSlab (F := F) c slab0 cc0_scratch5)
  | 2 => iprop(inflight c (table m c) 2 slab0 cc0_scratch5 ∗ idleSlab (F := F) c slab1 cc0_scratch6)
  | 3 => iprop(inflight c (table m c) 3 slab1 cc0_scratch6 ∗ idleSlab (F := F) c slab0 cc0_scratch5)
  | _ => iprop(wholeT c (table m c) ∗ idleSlab (F := F) c slab0 cc0_scratch5 ∗ idleSlab (F := F) c slab1 cc0_scratch6)

/-- The invariant before point `n`. -/
def Inv (n : ℕ) : sProp 𝕄 := iprop(scratchAt m c n ∗ ringAt m c ((n + 1) / 2) ∗ (∃ r, prngReg c r))

/-! ## The proof data of the one pipeline -/

/-- The arrays as launched; after the body the inputs' buffers at their blocks, the output's at the block it writes. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := Inv m c t.val
  q _ := fullShare
  owed _ := 0

theorem A_eq (w : Fin cfg0.W) : (dats m 0 c).A w = V m c (Pipeline.arrRef spec0 w) := by dsimp only [dats]
theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = outAt m c t := by dsimp only [dats]
theorem Inv_castSucc (t : Fin cfg0.N) : (dats m 0 c).Φ t.castSucc = Inv m c t.val := by
  dsimp only [dats]; simp only [Fin.val_castSucc]
theorem Inv_succ (t : Fin cfg0.N) : (dats m 0 c).Φ t.succ = Inv m c (t.val + 1) := by
  dsimp only [dats]; simp only [Fin.val_succ]

/-- The first input's staging buffer holds its block at every point; -/
theorem before_0 (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- so does the second's. -/
theorem before_1 (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The body at a point -/

abbrev stage0 (t : Fin cfg0.N) : Memref sig .tc .vmem S512x26 .f32 := win0_0.stage (cfg0.slots t 0)
abbrev stage1 (t : Fin cfg0.N) : Memref sig .tc .vmem S26x1024 .f32 := win0_1.stage (cfg0.slots t 1)
abbrev stage2 (t : Fin cfg0.N) : Memref sig .tc .vmem S512x1024 .f32 := win0_2.stage (cfg0.slots t 2)

/-- What the body is called with at point `t`, -/
def bodyPre (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d)))

/-- and what it returns. -/
def bodyPost (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t))

/-- At an even point the column block begins: the point is the first of its block. -/
theorem startOf_even (t : Fin cfg0.N) (h : t.val % 2 = 0) : startOf t.val = t := by
  have hN : t.val < 8 := lt_of_lt_of_eq t.isLt N_0
  exact Fin.ext (by show t.val / 2 * 2 % 8 = t.val; omega)

/-- A point that begins a column block leaves the thresholds and key products of that block. -/
theorem scratch_begun (t : Fin cfg0.N) (h : t.val % 2 = 0) :
    scratchAt m c (t.val + 1) = prepared c thr keyH keyL (table m c) (blkOf t.val) (iblk m c 1 t) := by
  show prepared c thr keyH keyL (table m c) (blkOf t.val) (iblk m c 1 (startOf t.val)) = _
  rw [startOf_even t h]

/-- At an odd point the scratch buffers hold what its column block needs, before and after. -/
theorem scratch_odd (t : Fin cfg0.N) (h : t.val % 2 = 1) : scratchAt m c t.val = scratchAt m c (t.val + 1) := by
  obtain ⟨n, hn⟩ := t
  obtain ⟨p, rfl⟩ : ∃ p, n = p + 1 := ⟨n - 1, by simp only at h; omega⟩
  have e1 : blkOf p = blkOf (p + 1) := Fin.ext (by show p / 2 % 4 = (p + 1) / 2 % 4; simp only at h; omega)
  have e2 : startOf p = startOf (p + 1) := Fin.ext (by show p / 2 * 2 % 8 = (p + 1) / 2 * 2 % 8; simp only at h; omega)
  show prepared c thr keyH keyL (table m c) (blkOf p) (iblk m c 1 (startOf p)) = prepared c thr keyH keyL (table m c) (blkOf (p + 1)) (iblk m c 1 (startOf (p + 1)))
  rw [e1, e2]

theorem outAt_even (t : Fin cfg0.N) (h : t.val % 2 = 0) :
    outAt m c t = outOf c (table m c) (blkOf t.val) (iblk m c 0 t) (iblk m c 1 t) := by
  unfold outAt; rw [startOf_even t h]

/-- The scratch buffers before any point are held at something. -/
theorem scratch_any (n : ℕ) : scratchAt m c n ⊢ iprop((∃ d, owns (c : Thread nD τ) thr fullShare d)
    ∗ (∃ d, owns (c : Thread nD τ) keyH fullShare d) ∗ (∃ d, owns (c : Thread nD τ) keyL fullShare d)) := by
  cases n with
  | zero => exact .rfl
  | succ p =>
    unfold scratchAt
    iintro ⟨H1, H2, H3⟩
    isplitl [H1]; · iexists _; iexact H1
    isplitl [H2]; · iexists _; iexact H2
    iexists _; iexact H3

set_option maxHeartbeats 1000000 in
/-- The body at a point inside a column block. -/
theorem sound_inside (t : Fin cfg0.N) (ho : t.val % 2 = 1) :
    bodyPre m c t ⊢ wp frame (wpE (defs₀ (F := F)) Variants.none c none) Set.univ (bodyAt0 t) (fun _ => bodyPost m c t) := by
  unfold bodyPre bodyPost
  simp only [before_0, before_1]
  rw [after_0, after_1, after_2, Inv_castSucc, Inv_succ]
  unfold Dat.owesAt Pipeline.owesWithin
  rw [show (dats m 0 c).owed t.castSucc = 0 from rfl, show (dats m 0 c).owed t.succ = 0 from rfl]
  unfold Inv
  rw [show (t.val + 1 + 1) / 2 = (t.val + 1) / 2 by omega, scratch_odd m c t ho]
  have h2 := cond2_iff t
  have h1 := first_iff t
  unfold scratchAt
  iintro ⟨⟨⟨HS1, HS2, HS3⟩, HR, Hg⟩, ⟨%W, -, HW⟩, ⟨%d0, H0⟩, ⟨%d1, H1⟩, ⟨%d2, H2⟩⟩
  iapply (run_inside c (grid0.coords t) _ _ _ _ _ _ _ _ _ _ _ _ _ _ _ _ _ _ (fun h => by have := h1.mp h; omega)
    (fun h => by have := h2.mp h; omega) (iblk m c 0 t) _ _ _ W _)
  isplitl [H0]; · iexact H0
  isplitl [H2]; · iexists _; iexact H2
  isplitl [HS1]; · iexact HS1
  isplitl [HS2]; · iexact HS2
  isplitl [HS3]; · iexact HS3
  isplitl [HW]; · iexact HW
  iintro ⟨H0, H2, HS1, HS2, HS3, HW⟩
  isplitl [HS1 HS2 HS3 HR Hg]
  · isplitl [HS1 HS2 HS3]
    · isplitl [HS1]; · iexact HS1
      isplitl [HS2]; · iexact HS2
      iexact HS3
    isplitl [HR]; · iexact HR
    iexact Hg
  isplitl [HW]
  · iexists W; isplitr; · ipureintro; exact fun _ _ => Or.inl trivial
    iexact HW
  isplitl [H0]; · iexact H0
  isplitl [H1]; · iexact H1
  iexact H2

set_option maxHeartbeats 1000000 in
/-- The body at a point that begins a column block, from the run of its case. -/
theorem sound_begin (t : Fin cfg0.N) (he : t.val % 2 = 0) (R R' : sProp 𝕄) (hR : ringAt m c ((t.val + 1) / 2) = R)
    (hR' : ringAt m c ((t.val + 1 + 1) / 2) = R')
    (run : ∀ (W : Waits sig Unit) (K : PUnit → sProp 𝕄),
      iprop(owns (c : Thread nD τ) (stage0 t) fullShare (iblk m c 0 t) ∗ owns (c : Thread nD τ) (stage1 t) fullShare (iblk m c 1 t)
          ∗ (∃ d, owns (c : Thread nD τ) (stage2 t) fullShare d)
          ∗ (∃ d, owns (c : Thread nD τ) thr fullShare d) ∗ (∃ d, owns (c : Thread nD τ) keyH fullShare d)
          ∗ (∃ d, owns (c : Thread nD τ) keyL fullShare d) ∗ R ∗ owes (c : Thread nD τ) 0 W
          ∗ (iprop(owns (c : Thread nD τ) (stage0 t) fullShare (iblk m c 0 t) ∗ owns (c : Thread nD τ) (stage1 t) fullShare (iblk m c 1 t)
            ∗ owns (c : Thread nD τ) (stage2 t) fullShare (outOf c (table m c) (blkOf t.val) (iblk m c 0 t) (iblk m c 1 t))
            ∗ prepared c thr keyH keyL (table m c) (blkOf t.val) (iblk m c 1 t) ∗ R' ∗ (∃ W', owes (c : Thread nD τ) 0 W')) -∗ K ⟨⟩))
        ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  simp only [before_0, before_1]
  rw [after_0, after_1, after_2, Inv_castSucc, Inv_succ]
  unfold Dat.owesAt Pipeline.owesWithin
  rw [show (dats m 0 c).owed t.castSucc = 0 from rfl, show (dats m 0 c).owed t.succ = 0 from rfl]
  unfold Inv
  rw [hR, hR', scratch_begun m c t he, outAt_even m c t he]
  iintro ⟨⟨HS, HR, Hg⟩, ⟨%W, -, HW⟩, ⟨%d0, H0⟩, ⟨%d1, H1⟩, ⟨%d2, H2⟩⟩
  ihave HS' := (scratch_any m c t.val) $$ HS
  icases HS' with ⟨HS1, HS2, HS3⟩
  iapply (run W _)
  isplitl [H0]; · iexact H0
  isplitl [H1]; · iexact H1
  isplitl [H2]; · iexists _; iexact H2
  isplitl [HS1]; · iexact HS1
  isplitl [HS2]; · iexact HS2
  isplitl [HS3]; · iexact HS3
  isplitl [HR]; · iexact HR
  isplitl [HW]; · iexact HW
  iintro ⟨H0, H1, H2, HS, HR, ⟨%W', HW⟩⟩
  isplitl [HS HR Hg]
  · isplitl [HS]; · iexact HS
    isplitl [HR]; · iexact HR
    iexact Hg
  isplitl [HW]
  · iexists W'; isplitr; · ipureintro; exact fun _ _ => Or.inl trivial
    iexact HW
  isplitl [H0]; · iexact H0
  isplitl [H1]; · iexact H1
  iexact H2

/-- The body at any point. -/
theorem sound_body (t : Fin cfg0.N) :
    bodyPre m c t ⊢ wp frame (wpE (defs₀ (F := F)) Variants.none c none) Set.univ (bodyAt0 t) (fun _ => bodyPost m c t) := by
  have hN : t.val < 8 := lt_of_lt_of_eq t.isLt N_0
  have h1 := first_iff t
  have h2 := cond2_iff t
  have h3 := cond3_iff t
  have h4 := cond4_iff t
  have h5 := cond5_iff t
  have h6 := cond6_iff t
  have o1 := off1_eq t
  have o2 := off2_eq t
  have o3 := off3_eq t
  have o4 := off4_eq t
  obtain h | h | h | h | h : t.val % 2 = 1 ∨ t.val = 0 ∨ t.val = 2 ∨ t.val = 4 ∨ t.val = 6 := by omega
  · exact sound_inside m c t h
  all_goals
    rw [h] at h1 h2 h3 h4 h5 h6 o1 o2 o3 o4
    refine sound_begin m c t (by omega) _ _ (by rw [h]) (by rw [h]) ?_
    rw [h]
  · exact run_first c (grid0.coords t) _ _ _ _ _ _ _ _ _ _ _ _ _ _ _ _ _ _ 0 1 (h1.2 rfl) (h2.2 rfl) (h3.2 rfl) (h4.2 (by decide))
      (fun h => absurd (h5.1 h) (by decide)) rfl o1 o2 _ _ (table m c)
  · exact run_odd c (grid0.coords t) _ _ _ _ _ _ _ _ _ _ _ _ _ _ _ _ _ _ 1 2 (fun h => absurd (h1.1 h) (by decide)) (h2.2 rfl)
      (fun h => absurd (h3.1 h) (by decide)) (h5.2 rfl) (h6.2 (by decide)) o3 o4 _ _ (table m c)
  · exact run_even c (grid0.coords t) _ _ _ _ _ _ _ _ _ _ _ _ _ _ _ _ _ _ 2 3 (fun h => absurd (h1.1 h) (by decide)) (h2.2 rfl)
      (h3.2 rfl) (h4.2 (by decide)) (fun h => absurd (h5.1 h) (by decide)) o1 o2 _ _ (table m c)
  · exact run_last c (grid0.coords t) _ _ _ _ _ _ _ _ _ _ _ _ _ _ _ _ _ _ 3 (fun h => absurd (h1.1 h) (by decide)) (h2.2 rfl)
      (fun h => absurd (h3.1 h) (by decide)) (h5.2 rfl) (fun h => absurd (h6.1 h) (by decide)) o3 _ _ (table m c)

end Cert.KernelIdeal.Hand

end
-- ==== Proof.Launch.lean ====
/-
  The kernel's whole run: from any launch it ends with the three argument arrays as they were, every counter at zero,
  and the output array holding, block by block, what the grid points write.
-/
module

public import proofs.«01_k».proof.Proof.Body
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The pipeline's call of the body is the body at the point. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- @main up to the pipeline: nothing comes before it. -/
theorem hmain (𝒱₀ : Variants) : Pipeline.HMain (Ix := Unit) (Name := ℕ) (U := Pipeline.UD sig nD τ) (Lvl := ℕ) cfgs 0 defs₀ 𝒱₀ m
    (main (F := F)) (V m) :=
  Pipeline.hmain_region cfgs 0 defs₀ 𝒱₀ m main fun c => (main_chain c).trans rfl

/-! ## What the body takes besides its windows -/

/-- The semaphores of the kernel's own copies. -/
def ownSem : Fin 2 → SemLoc sig := ![SemLoc.dma 6, SemLoc.dma 7]
theorem ownSem_facts : Pipeline.OwnSemFacts spec0 ownSem := by decide
theorem ownSem_list (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma 6) 0 ∗ semVal ((c : Thread nD τ), SemLoc.dma 7) 0) := by
  rw [Pipeline.ownSems0_eq_of_list c ownSem [0, 1] (by decide) (by decide)]; rfl

/-- The array the kernel's own copies read. -/
def hbm : Finset (Ref sig .tc) := {main_arg2}
theorem hbm_sub : hbm ⊆ Pipeline.restRefs sig spec0 := by decide
theorem hbm_list (c : Dev nD) :
    (bigSep hbm (fun b => ((c : Thread nD τ).loc b) ↦{fullShare} V m c b) : sProp 𝕄) = wholeT c (table m c) := by
  rw [BI.bigSep_eq_bigSepL_of_eq [main_arg2] (by decide) (by decide)]; rfl

/-- A slab held whole at something, as the launch hands it. -/
abbrev anySlab (c : Dev nD) (M : Memref sig .tc .vmem S1000x1024 .f32) : sProp 𝕄 := iprop(∃ f, atBuf (F := F) c M f)

/-- What the launch hands the pipeline's body, one thing after another. -/
theorem handed_eq (c : Dev nD) :
    (Pipeline.ΦD ownSem spec0 hbm (V m) c : sProp 𝕄)
      = iprop(iprop(anySlab c slab0 ∗ anySlab c slab1 ∗ (∃ d, owns (c : Thread nD τ) thr fullShare d)
          ∗ (∃ d, owns (c : Thread nD τ) keyH fullShare d) ∗ (∃ d, owns (c : Thread nD τ) keyL fullShare d))
        ∗ (∃ r, prngReg c r)
        ∗ iprop(semVal ((c : Thread nD τ), SemLoc.dma 6) 0 ∗ semVal ((c : Thread nD τ), SemLoc.dma 7) 0) ∗ wholeT c (table m c)) := by
  rw [Pipeline.ΦD_eq, scopedRest0_eq, ownSem_list, hbm_list]
  simp only [owns_whole]
  simp only [anySlab, atBuf, Memref.view_whole, View.set_whole]
  try rfl

/-- What the launch hands is the invariant before the first point, -/
theorem hin (c : Dev nD) : Pipeline.ΦD ownSem spec0 hbm (V m) c ⊢ (dats m 0 c).Φ 0 := by
  rw [handed_eq, show (dats m 0 c).Φ 0 = Inv m c 0 from rfl]
  unfold Inv scratchAt
  show _ ⊢ iprop(_ ∗ iprop(wholeT c (table m c) ∗ idleSlab (F := F) c slab0 cc0_scratch5 ∗ idleSlab (F := F) c slab1 cc0_scratch6) ∗ _)
  iintro ⟨⟨H0, H1, H2⟩, Hg, ⟨Hq0, Hq1⟩, HT⟩
  isplitl [H2]; · iexact H2
  isplitr [Hg]
  · isplitl [HT]; · iexact HT
    isplitl [H0 Hq0]
    · isplitl [H0]; · iexact H0
      iexact Hq0
    isplitl [H1]; · iexact H1
    iexact Hq1
  iexact Hg

/-- and the invariant after the last point is handed back. -/
theorem hout (c : Dev nD) : (dats m 0 c).Φ (Fin.last cfg0.N) ⊢ Pipeline.ΦD ownSem spec0 hbm (V m) c := by
  rw [handed_eq, show (dats m 0 c).Φ (Fin.last cfg0.N) = Inv m c grid0.N from rfl, N_0]
  unfold Inv
  show iprop(_ ∗ iprop(wholeT c (table m c) ∗ idleSlab (F := F) c slab0 cc0_scratch5 ∗ idleSlab (F := F) c slab1 cc0_scratch6) ∗ _) ⊢ _
  iintro ⟨HS, ⟨HT, ⟨H0, Hq0⟩, ⟨H1, Hq1⟩⟩, Hg⟩
  isplitl [H0 H1 HS]
  · isplitl [H0]; · iexact H0
    isplitl [H1]; · iexact H1
    iapply (scratch_any m c 8); iexact HS
  isplitl [Hg]; · iexact Hg
  isplitl [Hq0 Hq1]
  · isplitl [Hq0]; · iexact Hq0
    iexact Hq1
  iexact HT

/-! ## The run -/

-- the launch theorem's implicit arguments are found by unifying its conclusion with this one, which takes unfolding plain
-- definitions in a metavariable's type
set_option backward.isDefEq.respectTransparency.types false in
/-- The whole run: every array of the pipeline at what its blocks were left at, every other one unchanged, every counter at
    zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 ownSem defs₀ Variants.none ownSem_facts hbm hbm_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The output array after the run. -/
def outArr (c : Dev nD) : Buf (Elt F) ((c : Thread nD τ).loc main_v0) := (dats m 0 c).arrAt 2 cfg0.N

/-- From any memory with zero counters the kernel ends with its output array at `outArr`, the argument arrays as they
    were and every counter at zero. -/
theorem run_value : θ_run defs (onTc (τ := τ) (main (F := F))) ⟨m, fun _ => 0, ρ⟩ (fun r => (∀ c : Dev nD,
      r.2.mem ((c : Thread nD τ).loc main_v0) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun _ h => ⟨fun c => ⟨(h.1 c).1 2,
      ((h.1 c).1 0).trans (((dats m 0 c).arrAt_in 0 rfl _).trans (A_eq m c 0)),
      ((h.1 c).1 1).trans (((dats m 0 c).arrAt_in 1 rfl _).trans (A_eq m c 1)),
      (h.1 c).2 main_arg2 (Pipeline.mem_restRefs_of main_arg2 (by decide) (by decide))⟩, h.2⟩) (run_main m ρ)

end Cert.KernelIdeal.Hand

end
-- ==== Proof.Transfer.lean ====
/-
  The kernel as compiled and the kernel as read over the extended reals are one text: the same procedures, the same
  entry. A run proved of the one, for any reading of the floats, is a run of the other.
-/
module

public import proofs.«01_k».proof.Defs

@[expose] public section

noncomputable section

namespace Cert.Transfer

open Idealize.ShloMosaic Idealize.ShloMosaic.TcCoe Idealize.SL.Sem

variable {F : FTy → Type} [FloatOps F] [Cert.Kernel.Facts] [Cert.KernelIdeal.Facts]

/-- The pipelines' bodies are the same. -/
theorem bodies_eq : Cert.Kernel.defs₀ (F := F) = Cert.KernelIdeal.defs₀ (F := F) := by
  unfold Cert.Kernel.defs₀ Cert.KernelIdeal.defs₀
  congr 1
  funext l x
  match l, x with
  | 0, (t, s) => rfl

/-- The procedures are the same. -/
theorem defs_eq : Cert.Kernel.defs (F := F) = Cert.KernelIdeal.defs (F := F) := by
  unfold Cert.Kernel.defs Cert.KernelIdeal.defs
  rw [bodies_eq]
  rfl

end Cert.Transfer

end
-- ==== Proof.Frames.lean ====
/-
  The frames: the kernel, the kernel read over the extended reals and the reference all end, with their arguments as
  they were and every counter at zero.
-/
module

public import proofs.«01_k».proof.Proof.Launch
public import proofs.«01_k».proof.Proof.Transfer
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Frames

open Idealize.ShloMosaic Idealize.ShloMosaic.TcCoe Idealize.SL.Sem

/-- The kernel over the extended reals. -/
theorem kernelIdeal : quiescent_KernelIdeal := fun m g _ =>
  (θ_run _ _ _).mono (fun _ h => ⟨fun c => (h.1 c).2, h.2⟩) (Cert.KernelIdeal.Hand.run_value m g)

/-- The kernel on words. -/
theorem kernel : quiescent_Kernel := by
  intro m g _
  rw [Cert.Transfer.defs_eq]
  exact (θ_run _ _ _).mono (fun _ h => ⟨fun c => (h.1 c).2, h.2⟩) (Cert.KernelIdeal.Hand.run_value (F := Bits) m g)

/-- The reference: it has no counter, so every counter is at zero. -/
theorem referenceIdeal : quiescent_ReferenceIdeal := fun m g _ =>
  (θ_run _ _ _).mono (fun r h => ⟨fun c => (h c).2, sem_eq_zero_of_no_sems (by decide) r.2⟩) (Cert.ReferenceIdeal.Value.run m g)

end Cert.Frames

end
-- ==== Proof.Levels.lean ====
/-
  The mathematics of the level encoding, without programs: the level of an input, the literals of the two programs, and
  the threshold of a column of the level table. A column of 1000 entries 1 or −1 that is its first entry up to some row and
  its last entry from there on changes at the row `T = (first · sum + 1000) / 2`, and its entry at level `L` is the last
  one where `T ≤ L` and the first one otherwise.
-/
module

public import Idealize.ShloMosaic.Lib.Pointwise
public import Idealize.ShloMosaic.Lib.IdealHost

@[expose] public section

noncomputable section

namespace Cert.Level

open Idealize.ShloMosaic

/-! ## The literals -/

theorem lit_999 : Ideal.ofBits .f32 0x4479C000#32 = ((999 : ℝ) : EReal) := by
  simp [Ideal.ofBits, Ideal.ieee, -EReal.coe_mul]; norm_num

theorem lit_1000 : Ideal.ofBits .f32 0x447A0000#32 = ((1000 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_neg_one : Ideal.ofBits .f32 0xBF800000#32 = ((-1 : ℝ) : EReal) := by
  simp [Ideal.ofBits, Ideal.ieee, -EReal.coe_mul, -EReal.coe_neg]; norm_num

/-! ## The level of an input -/

/-- The nearest whole number to 999 times the input, brought into the range of the levels. -/
def whole (x : EReal) : ℤ := Ideal.toIntClamped 0 999 (Ideal.liftRound Ideal.roundHalfEven (x * ((999 : ℝ) : EReal)))

theorem whole_range (x : EReal) : 0 ≤ whole x ∧ whole x ≤ 999 := by
  unfold whole Ideal.toIntClamped
  split <;> omega

/-- The level of an input. -/
def level (x : EReal) : Fin 1000 := ⟨(whole x).toNat, by have := whole_range x; omega⟩

theorem level_val (x : EReal) : ((level x).val : ℤ) = whole x := by
  have := whole_range x
  unfold level
  simp only
  omega

/-- The whole number nearest to 999 times the input, brought into the range of the signed words of width `w`. -/
def wordOf (w : ℕ) (x : EReal) : ℤ :=
  Ideal.toIntClamped (-(2 ^ (w - 1) : ℕ)) ((2 ^ (w - 1) : ℕ) - 1) (Ideal.liftRound Ideal.roundHalfEven (x * ((999 : ℝ) : EReal)))

/-- Converting the rounded product to an integer gives it. -/
theorem fptosi_round (w : ℕ) (x : EReal) :
    Ideal.fptosi w (Ideal.liftRound Ideal.roundHalfEven (x * ((999 : ℝ) : EReal))) = BitVec.ofInt w (wordOf w x) := rfl

theorem wordOf_range (w : ℕ) (x : EReal) : -(2 ^ (w - 1) : ℕ) ≤ wordOf w x ∧ wordOf w x < (2 ^ (w - 1) : ℕ) := by
  have hp : 0 < 2 ^ (w - 1) := by positivity
  unfold wordOf Ideal.toIntClamped
  split <;> omega

/-- With 11 bits or more the level is that whole number clipped to 0 to 999. -/
theorem level_clip (w : ℕ) (hw : 11 ≤ w) (x : EReal) : ((level x).val : ℤ) = max 0 (min 999 (wordOf w x)) := by
  have hp : (1024 : ℕ) ≤ 2 ^ (w - 1) := (Nat.pow_le_pow_right (n := 2) (by norm_num) (show 10 ≤ w - 1 by omega))
  rw [level_val]
  unfold whole wordOf Ideal.toIntClamped
  split <;> omega

/-! ## The threshold of a column -/

/-- A column of the table: its entries are 1 or −1, each of them the first or the last one, and from the first row on which the
    entry is not the first one they are the last one. -/
structure Flips (v : Fin 1000 → EReal) : Prop where
  unit : ∀ k, v k = 1 ∨ v k = ((-1 : ℝ) : EReal)
  ends : ∀ k, v k = v 0 ∨ v k = v 999
  once : ∀ (k : ℕ) (h : k + 1 < 1000), v ⟨k, by omega⟩ = v 0 ∨ v ⟨k + 1, h⟩ = v 999

/-- The rows that hold the first entry. -/
def firsts (v : Fin 1000 → EReal) : Finset (Fin 1000) := by
  classical
  exact Finset.univ.filter fun k => v k = v 0

theorem mem_firsts {v : Fin 1000 → EReal} {k : Fin 1000} : k ∈ firsts v ↔ v k = v 0 := by
  classical
  simp [firsts]

/-- The row at which the column changes. -/
def threshold (v : Fin 1000 → EReal) : ℕ := (firsts v).card

theorem threshold_le (v : Fin 1000 → EReal) : threshold v ≤ 1000 := by
  have := Finset.card_le_univ (firsts v)
  simpa [threshold] using this

variable {v : Fin 1000 → EReal}

/-- A row above a row with the first entry has the first entry. -/
theorem firsts_down (h : Flips v) : ∀ (n k : ℕ) (hn : k + n < 1000), (⟨k + n, hn⟩ : Fin 1000) ∈ firsts v →
    (⟨k, by omega⟩ : Fin 1000) ∈ firsts v
  | 0, _, _, hm => hm
  | n + 1, k, hn, hm => by
    refine firsts_down h n k (by omega) ?_
    rw [mem_firsts] at hm ⊢
    rcases h.once (k + n) (by omega) with hl | hl
    · exact hl
    · have e : v 999 = v 0 := by rw [← hl]; exact hm
      rcases h.ends ⟨k + n, by omega⟩ with h' | h'
      · exact h'
      · rw [h', e]

/-- The rows with the first entry are those below the threshold. -/
theorem mem_firsts_iff (h : Flips v) (k : Fin 1000) : k ∈ firsts v ↔ k.val < threshold v := by
  constructor
  · intro hk
    have hsub : Finset.Iic k ⊆ firsts v := fun j hj => by
      have hj' : j ≤ k := by simpa using hj
      have hj'' : j.val ≤ k.val := hj'
      have := firsts_down h (k.val - j.val) j.val (by omega)
      have e : (⟨j.val + (k.val - j.val), by omega⟩ : Fin 1000) = k := Fin.ext (by simp only; omega)
      rw [e] at this
      exact this hk
    have := Finset.card_le_card hsub
    rw [Fin.card_Iic] at this
    unfold threshold; omega
  · intro hk
    by_contra hn
    have hsub : firsts v ⊆ Finset.Iio k := fun j hj => by
      rw [Finset.mem_Iio]
      by_contra hlt
      have hle : k.val ≤ j.val := not_lt.mp hlt
      have := firsts_down h (j.val - k.val) k.val (by omega)
      have e : (⟨k.val + (j.val - k.val), by omega⟩ : Fin 1000) = j := Fin.ext (by simp only; omega)
      rw [e] at this
      exact hn (this hj)
    have := Finset.card_le_card hsub
    rw [Fin.card_Iio] at this
    unfold threshold at hk; omega

/-- The entry at a level, by comparing the level with the threshold. -/
theorem entry_eq (h : Flips v) (k : Fin 1000) : v k = if threshold v ≤ k.val then v 999 else v 0 := by
  by_cases hk : k ∈ firsts v
  · have := (mem_firsts_iff h k).mp hk
    rw [if_neg (by omega)]
    exact mem_firsts.mp hk
  · have := mt (mem_firsts_iff h k).mpr hk
    rw [if_pos (by omega)]
    rcases h.ends k with h' | h'
    · exact absurd (mem_firsts.mpr h') hk
    · exact h'

/-- The first entry times an entry is 1 on the rows with the first entry and −1 on the others. -/
theorem first_mul (h : Flips v) (k : Fin 1000) : v 0 * v k = (((if k ∈ firsts v then 1 else -1 : ℝ)) : EReal) := by
  by_cases hk : k ∈ firsts v
  · rw [if_pos hk, mem_firsts.mp hk]
    rcases h.unit 0 with e | e <;> rw [e]
    · simp
    · rw [← EReal.coe_mul]; norm_num
  · rw [if_neg hk]
    have hne : v k ≠ v 0 := fun e => hk (mem_firsts.mpr e)
    rcases h.unit 0 with e | e <;> rcases h.unit k with e' | e' <;> rw [e] at hne <;> rw [e'] at hne <;> rw [e, e']
    · exact absurd rfl hne
    · rw [one_mul]
    · rw [mul_one]
    · exact absurd rfl hne

/-- A sum of reals among the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A product with 1 or −1 distributes over a sum. -/
theorem first_mul_sum (h : Flips v) : v 0 * ∑ k, v k = ∑ k, v 0 * v k := by
  have hr : ∀ k, ∃ r : ℝ, v k = (r : EReal) := fun k => by
    rcases h.unit k with e | e
    · exact ⟨1, by rw [e]; rfl⟩
    · exact ⟨-1, e⟩
  choose r hr using hr
  have hs : ∑ k, v k = ((∑ k, r k : ℝ) : EReal) := by
    rw [coe_sum]; exact Finset.sum_congr rfl fun k _ => hr k
  rw [hs, hr 0, ← EReal.coe_mul, Finset.mul_sum, coe_sum]
  exact Finset.sum_congr rfl fun k _ => by rw [hr k, EReal.coe_mul]

/-- Half of the first entry times the sum of the column, plus 1000, is the threshold. -/
theorem threshold_eq (h : Flips v) :
    (v 0 * (∑ k, v k) + ((1000 : ℝ) : EReal)) * ((1 / 2 : ℝ) : EReal) = ((threshold v : ℝ) : EReal) := by
  rw [first_mul_sum h, Finset.sum_congr rfl fun k _ => first_mul h k, ← coe_sum, ← EReal.coe_add, ← EReal.coe_mul]
  congr 1
  have hsum : ∑ k : Fin 1000, (if k ∈ firsts v then (1 : ℝ) else -1) = 2 * threshold v - 1000 := by
    have hsplit : ∀ k : Fin 1000, (if k ∈ firsts v then (1 : ℝ) else -1) = 2 * (if k ∈ firsts v then 1 else 0) - 1 := fun k => by
      split <;> norm_num
    rw [Finset.sum_congr rfl fun k _ => hsplit k, Finset.sum_sub_distrib, ← Finset.mul_sum, Finset.sum_ite_mem, Finset.univ_inter]
    simp [threshold]
  rw [hsum]; ring

/-- Converting the threshold to an integer of 12 bits or more gives it back. -/
theorem fptosi_threshold (v : Fin 1000 → EReal) (w : ℕ) (hw : 12 ≤ w) :
    Ideal.fptosi w ((threshold v : ℝ) : EReal) = BitVec.ofInt w (threshold v) := by
  have hp : (2048 : ℕ) ≤ 2 ^ (w - 1) := (Nat.pow_le_pow_right (n := 2) (by norm_num) (show 11 ≤ w - 1 by omega))
  have := threshold_le v
  unfold Ideal.fptosi
  rw [Ideal.toIntClamped_coe, if_pos (by positivity), Int.floor_natCast]
  congr 1
  omega

/-- The first row holds the first entry. -/
theorem threshold_pos (v : Fin 1000 → EReal) : 1 ≤ threshold v :=
  Finset.card_pos.mpr ⟨0, mem_firsts.mpr rfl⟩

/-- The entry at an input's level, by comparing the whole number that the level clips with the threshold. -/
theorem entry_at_level (h : Flips v) (x : EReal) :
    v (level x) = if (threshold v : ℤ) ≤ wordOf 16 x then v 999 else v 0 := by
  have hc := level_clip 16 (by norm_num) x
  have hpos := threshold_pos v
  have hle := threshold_le v
  rw [entry_eq h]
  by_cases ht : threshold v = 1000
  · have e : v 999 = v 0 := (entry_eq h 999).trans (if_neg (by rw [ht]; decide))
    rw [e, ite_self, ite_self]
  · exact if_congr (by omega) rfl rfl

/-- Comparing the words of two numbers of 16 bits compares the numbers. -/
theorem sge_ofInt (a b : ℤ) (ha : -32768 ≤ a ∧ a < 32768) (hb : -32768 ≤ b ∧ b < 32768) :
    IntOp.cmpi .sge (BitVec.ofInt 16 a) (BitVec.ofInt 16 b) = 1#1 ↔ b ≤ a := by
  have e : ∀ n : ℤ, -32768 ≤ n ∧ n < 32768 → (BitVec.ofInt 16 n).toInt = n := fun n hn => by
    rw [BitVec.toInt_ofInt]
    exact Int.bmod_eq_of_le (by omega) (by omega)
  unfold IntOp.cmpi
  simp only [BitVec.sle, e a ha, e b hb]
  by_cases h : b ≤ a <;> simp [h]

/-- Clipping the word of a number of 32 bits to 0 to 999 clips the number. -/
theorem clip_ofInt (a : ℤ) (ha : -2147483648 ≤ a ∧ a < 2147483648) :
    IntOp.minsi 999#32 (IntOp.maxsi 0#32 (BitVec.ofInt 32 a)) = BitVec.ofInt 32 (max 0 (min 999 a)) := by
  have e : (BitVec.ofInt 32 a).toInt = a := by
    rw [BitVec.toInt_ofInt]
    exact Int.bmod_eq_of_le (by omega) (by omega)
  have e0 : (0#32 : BitVec 32).toInt = 0 := by decide
  have e9 : (999#32 : BitVec 32).toInt = 999 := by decide
  unfold IntOp.maxsi
  simp only [BitVec.slt, e, e0, decide_eq_true_eq]
  by_cases h0 : a < 0
  · rw [if_pos h0, show max 0 (min 999 a) = 0 by omega]
    decide
  · rw [if_neg h0]
    unfold IntOp.minsi
    simp only [BitVec.slt, e, e9, decide_eq_true_eq]
    by_cases h9 : 999 < a
    · rw [if_pos h9, show max 0 (min 999 a) = 999 by omega]
      decide
    · rw [if_neg h9, show max 0 (min 999 a) = a by omega]

/-! ## The result that kernel and reference both compute -/

/-- The sign of the bound sum at one place: the inputs `x` of the place's row, the keys `k` and the table `v` of its column. -/
def encode (x : Fin 26 → EReal) (k : Fin 26 → EReal) (v : Fin 1000 → EReal) : EReal :=
  if 0 < ∑ n, k n * v (level (x n)) then (1 : EReal) else ((-1 : ℝ) : EReal)

/-- The encoding of every row of inputs, as an array. -/
def encoded (x : (⟨2, ![1024, 26]⟩ : Shape).Idx → EReal) (k : (⟨2, ![26, 4096]⟩ : Shape).Idx → EReal)
    (v : (⟨2, ![1000, 4096]⟩ : Shape).Idx → EReal) : (⟨2, ![1024, 4096]⟩ : Shape).Idx → EReal :=
  fun i => encode (fun n => x (ix2 (i 0) n)) (fun n => k (ix2 n (i 1))) fun l => v (ix2 l (i 1))

end Cert.Level

end
-- ==== Proof.Element.lean ====
/-
  What one grid point's output block holds at an element, over the extended reals: the sign of the sum over the channels
  of the one or the other key product, as the channel's level reaches the column's threshold or not.
-/
module

public import proofs.«01_k».proof.Proof.Output
public import proofs.«01_k».proof.Proof.Levels

@[expose] public section

set_option maxRecDepth 16384

noncomputable section

namespace Cert.KernelIdeal.Hand

open Idealize.ShloMosaic Cert.KernelIdeal.Gen

/-- What a channel contributes at row `r`, column `d` of a block whose levels are `lev`, whose thresholds are `th`, from the
    rows `h` and `l` of the channel. -/
def pick (lev : IVec S512x26 16) (th : Vec Ideal S1x1024 .i16) (h l : Fin 26 → Vec Ideal S1x1024 .bf16) (r : Fin 512) (d : Fin 1024)
    (n : Fin 26) : EReal :=
  Scalar.select (IntOp.cmpi .sge (lev (ix2 r n)) (th (ix2 0 d))) (h n (ix2 0 d)) (l n (ix2 0 d))

set_option maxHeartbeats 4000000 in
/-- The stored block at an element. -/
theorem signOf_at (x : Vec Ideal S512x26 .f32) (th : Vec Ideal S1x1024 .i16) (h l : Fin 26 → Vec Ideal S1x1024 .bf16) (r : Fin 512)
    (d : Fin 1024) :
    signOf x th h l (ix2 r d)
      = if 0 < ∑ n, pick (k0_pay10 x) th h l r d n then (1 : EReal) else ((-1 : ℝ) : EReal) := by
  pointwise [signOf, k0_pay1, k0_pay11, k0_pay12, k0_pay13, k0_pay14, k0_pay15, k0_pay16, k0_pay17, k0_pay18, k0_pay19, k0_pay20,
    k0_pay21, k0_pay22, k0_pay23, k0_pay24, k0_pay25, k0_pay26, k0_pay27, k0_pay28]
  rw [Ideal.ofBits_neg_one_bf16]
  simp only [Fin.sum_univ_castSucc, Finset.univ_eq_empty, Finset.sum_empty, zero_add]
  rfl

/-- The quantized inputs of a block. -/
theorem levels_at (x : Vec Ideal S512x26 .f32) (r : Fin 512) (n : Fin 26) :
    k0_pay10 x (ix2 r n) = BitVec.ofInt 16 (Level.wordOf 16 (x (ix2 r n))) := by
  pointwise [k0_pay10]
  rw [Level.lit_999]
  exact Level.fptosi_round 16 _

/-- The thresholds prepared from a column block of the table whose column `d` flips once. -/
theorem thresholds_at (v : Vec Ideal S1000x1024 .f32) (a : Fin 16) (d : Fin 1024) (h : Level.Flips fun k => v (ix2 k d)) :
    k0_pay3 v (ix2 a d) = BitVec.ofInt 16 (Level.threshold fun k => v (ix2 k d)) := by
  pointwise [k0_pay3, k0_pay2]
  rw [Level.lit_1000, Level.lit_half]
  exact (congrArg (Ideal.fptosi 16) (Level.threshold_eq h)).trans (Level.fptosi_threshold _ 16 (by norm_num))

/-- The keys times the last row of a column block, -/
theorem high_at (v : Vec Ideal S1000x1024 .f32) (k : Vec Ideal S26x1024 .f32) (n : Fin 26) (d : Fin 1024) :
    k0_pay4 v k (ix2 n d) = k (ix2 n d) * v (ix2 999 d) := by
  pointwise [k0_pay4]

/-- and times its first row. -/
theorem low_at (v : Vec Ideal S1000x1024 .f32) (k : Vec Ideal S26x1024 .f32) (n : Fin 26) (d : Fin 1024) :
    k0_pay5 v k (ix2 n d) = k (ix2 n d) * v (ix2 0 d) := by
  pointwise [k0_pay5, k0_pay2]

/-! ## The rows that a point loads -/

theorem top_at {α : Type} (t : S16x1024.Idx → α) (d : Fin 1024) : ld t topRect (ix2 0 d) = t (ix2 0 d) := by
  unfold ld
  congr 1
  funext a
  apply Fin.ext
  fin_cases a <;> simp [LoadRect.idx, Rect.unit, Rect.toLoadRect] <;> rfl

theorem row_at {α : Type} (k : S26x1024.Idx → α) (n : Fin 26) (d : Fin 1024) : ld k (rowRect n) (ix2 0 d) = k (ix2 n d) := by
  unfold ld
  congr 1
  funext a
  apply Fin.ext
  fin_cases a <;> simp [LoadRect.idx, Rect.unit, Rect.toLoadRect] <;> rfl

/-! ## The element of a block -/

/-- The output block at an element, from a column block of the table whose columns flip once: the sign of the sum over the
    channels of the key times the table's entry at the channel's level. -/
theorem outBlock_at (v : Vec Ideal S1000x1024 .f32) (x : Vec Ideal S512x26 .f32) (k : Vec Ideal S26x1024 .f32) (r : Fin 512)
    (d : Fin 1024) (hv : Level.Flips fun k => v (ix2 k d)) :
    outBlock x (k0_pay3 v) (k0_pay4 v k) (k0_pay5 v k) (ix2 r d)
      = Level.encode (fun n => x (ix2 r n)) (fun n => k (ix2 n d)) fun l => v (ix2 l d) := by
  unfold outBlock Level.encode
  rw [signOf_at]
  have e : ∀ n, pick (k0_pay10 x) (ld (k0_pay3 v) topRect) (fun n => ld (k0_pay4 v k) (rowRect n)) (fun n => ld (k0_pay5 v k) (rowRect n)) r d n
      = k (ix2 n d) * v (ix2 (Level.level (x (ix2 r n))) d) := fun n => by
    unfold pick
    dsimp only
    rw [top_at, row_at, row_at, levels_at, thresholds_at v 0 d hv, high_at, low_at]
    have hle := Level.threshold_le fun k => v (ix2 k d)
    have hc := Level.sge_ofInt (Level.wordOf 16 (x (ix2 r n))) (Level.threshold fun k => v (ix2 k d))
      (Level.wordOf_range 16 _) (by omega)
    have he : v (ix2 (Level.level (x (ix2 r n))) d) = if ((Level.threshold fun k => v (ix2 k d)) : ℤ) ≤ Level.wordOf 16 (x (ix2 r n))
        then v (ix2 999 d) else v (ix2 0 d) := Level.entry_at_level hv (x (ix2 r n))
    rw [he]
    unfold Scalar.select
    by_cases h : ((Level.threshold fun k => v (ix2 k d)) : ℤ) ≤ Level.wordOf 16 (x (ix2 r n))
    · rw [if_pos h]; exact if_pos (hc.mpr h)
    · rw [if_neg h]; exact if_neg (mt hc.mp h)
  rw [Finset.sum_congr rfl fun n _ => e n]

end Cert.KernelIdeal.Hand
-- ==== Proof.Array.lean ====
/-
  What the kernel's result array holds: at a row and a column, the sign of the sum over the channels of the key times the
  table's entry at the channel's level, when the table's columns flip once.
-/
module

public import proofs.«01_k».proof.Proof.Launch
public import proofs.«01_k».proof.Proof.Element
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Cert.KernelIdeal.Gen

variable (m : (ℓ : Loc nD τ sig) → Buf (Elt Ideal) ℓ) (c : Dev nD)

/-- Where a point's blocks lie: the row block is the point's parity, the column block half the point's number. -/
theorem idx : ∀ t : Fin cfg0.N, win0_0.index t = ![t.val % 2, 0] ∧ win0_1.index t = ![0, t.val / 2]
    ∧ win0_2.index t = ![t.val % 2, t.val / 2] :=
  (by decide +kernel : ∀ t : Fin grid0.N, win0_0.index t = ![t.val % 2, 0] ∧ win0_1.index t = ![0, t.val / 2]
    ∧ win0_2.index t = ![t.val % 2, t.val / 2])

/-- The three arguments as launched. -/
abbrev inputs : S1024x26.Idx → EReal := m ((c : Thread nD τ).loc main_arg0)
abbrev keys : S26x4096.Idx → EReal := m ((c : Thread nD τ).loc main_arg1)
abbrev levels : S1000x4096.Idx → EReal := m ((c : Thread nD τ).loc main_arg2)

/-! ## The three blocks that a point reads -/

/-- The row of the arrays that a point's row `r` is, -/
def rowOf (t : Fin cfg0.N) (r : Fin 512) : Fin 1024 := ⟨512 * (t.val % 2) + r.val, by have := r.isLt; omega⟩
/-- and the column that its column `d` is. -/
def colOf (t : Fin cfg0.N) (d : Fin 1024) : Fin 4096 :=
  ⟨1024 * (t.val / 2) + d.val, by have := d.isLt; have : t.val < 8 := lt_of_lt_of_eq t.isLt N_0; omega⟩

/-- The block of inputs, -/
theorem inputs_at (t : Fin cfg0.N) (r : Fin 512) (n : Fin 26) : iblk m c 0 t (ix2 r n) = inputs m c (ix2 (rowOf t r) n) := by
  unfold rowOf
  blk_ext [iblk, V, idx t]

/-- the block of keys, fetched at the column block's first point, -/
theorem keys_at (t : Fin cfg0.N) (n : Fin 26) (d : Fin 1024) :
    iblk m c 1 (startOf t.val) (ix2 n d) = keys m c (ix2 n (colOf t d)) := by
  have hN : t.val < 8 := lt_of_lt_of_eq t.isLt N_0
  have hs : (startOf t.val).val / 2 = t.val / 2 := by show t.val / 2 * 2 % 8 / 2 = t.val / 2; omega
  unfold colOf
  blk_ext [iblk, V, idx (startOf t.val), hs]

/-- and the column block of the table. -/
theorem levels_slab (t : Fin cfg0.N) (l : Fin 1000) (d : Fin 1024) :
    slab c (table m c) (blkOf t.val) (ix2 l d) = levels m c (ix2 l (colOf t d)) := by
  have hN : t.val < 8 := lt_of_lt_of_eq t.isLt N_0
  have hb : (blkOf t.val).val = t.val / 2 := by show t.val / 2 % 4 = t.val / 2; omega
  refine congrArg (levels m c) (funext fun a => Fin.ext ?_)
  fin_cases a
  · show 0 + 1 * l.val = l.val
    omega
  · show 1024 * (blkOf t.val).val + 1 * d.val = 1024 * (t.val / 2) + d.val
    rw [hb]
    omega

/-- A point's rows and columns are these of the result array. -/
theorem out_row (t : Fin cfg0.N) (r : Fin 512) (d : Fin 1024) : (win0_2.blk t).view.emb (ix2 r d) = ix2 (rowOf t r) (colOf t d) := by
  unfold rowOf colOf
  blk_ext [idx t]

/-- The result array holds the encoding of every row of inputs. -/
theorem outArr_eq (hv : ∀ d : Fin 4096, Level.Flips fun l => levels m c (ix2 l d)) :
    outArr m c = Level.encoded (inputs m c) (keys m c) (levels m c) := by
  unfold outArr
  refine (dats m 0 c).arrAt_eq_of_covers 2 _ (by decide +kernel) fun t hf y => ?_
  blk_simp
  rw [after_2]
  obtain ⟨r, d, rfl⟩ : ∃ (r : Fin 512) (d : Fin 1024), y = ix2 r d := ⟨y 0, y 1, (ix2_eta y).symm⟩
  rw [out_row]
  have e : (fun l => slab c (table m c) (blkOf t.val) (ix2 l d)) = fun l => levels m c (ix2 l (colOf t d)) :=
    funext fun l => levels_slab m c t l d
  refine (outBlock_at (slab c (table m c) (blkOf t.val)) (iblk m c 0 t) (iblk m c 1 (startOf t.val)) r d
    (by rw [e]; exact hv _)).trans ?_
  show _ = Level.encode _ _ _
  rw [e]
  congr 1
  · exact funext fun n => inputs_at m c t r n
  · exact funext fun n => keys_at m c t n d

end Cert.KernelIdeal.Hand
-- ==== Proof.Taken.lean ====
/-
  The reference takes rows of the level table: what a taken element is.
-/
module

public import proofs.«01_k».proof.Proof.Gen.ReferenceIdeal
public import proofs.«01_k».proof.Proof.Levels
public import Idealize.ShloMosaic.Lib.Pointwise
public import Idealize.ShloMosaic.Lib.ReduceAll
public import Idealize.ShloMosaic.Lib.StableHlo.Predicate

@[expose] public section

set_option maxRecDepth 16384

noncomputable section

namespace Cert.ReferenceIdeal.Hand

open Idealize.ShloMosaic Idealize.ShloMosaic.Tactic
open Cert.ReferenceIdeal Cert.ReferenceIdeal.Gen

/-- The dimension numbers of the reference's take of table rows. -/
abbrev rows : GatherDims S1000x4096 S1024x26x1 S1024x26x4096 := gather_S1000x4096_S1024x26x1_S1024x26x4096_2_0_n_n_0_2_14096

/-- Where the row number is `l`, the element taken is the table's in row `l` of the same column. -/
theorem taken_at {α : Type} (x : S1000x4096.Idx → α) (i : IVec S1024x26x1 32) (b : Fin 1024) (n : Fin 26) (d : Fin 4096)
    (l : Fin 1000) (h : i (ix3 b n 0) = BitVec.ofNat 32 l.val) : Host.gather rows x i (ix3 b n d) = x (ix2 l d) := by
  unfold Host.gather
  refine congrArg x (funext fun a => Fin.ext ?_)
  have hl := l.isLt
  fin_cases a
  · have e : rows.siIdx (ix3 b n d) ⟨rows.startIndexMap.idxOf 0, by decide⟩ = ix3 b n 0 := by
      funext a
      fin_cases a <;> rfl
    show min (i (rows.siIdx (ix3 b n d) ⟨rows.startIndexMap.idxOf 0, by decide⟩)).toInt.toNat 999 + 0 + 0 = l.val
    rw [e, h, StableHlo.Predicate.toInt_ofNat_small _ (by omega)]
    omega
  · show 0 + 0 + d.val = d.val
    omega

end Cert.ReferenceIdeal.Hand
-- ==== Proof.Reference.lean ====
/-
  What the reference computes: at a row and a column, the sign of the sum over the channels of the key times the table's
  entry at the channel's level.
-/
module

public import proofs.«01_k».proof.Proof.Gen.ReferenceIdeal.Run
public import proofs.«01_k».proof.Proof.Taken

@[expose] public section

set_option maxRecDepth 16384

noncomputable section

namespace Cert.ReferenceIdeal.Hand

open Idealize.ShloMosaic Idealize.ShloMosaic.Tactic
open Cert.ReferenceIdeal Cert.ReferenceIdeal.Gen

variable (x : FVec Ideal S1024x26 .f32) (k : FVec Ideal S26x4096 .f32) (v : FVec Ideal S1000x4096 .f32)

/-! ## The reference in stages -/

/-- The quantized inputs, clipped to 0 to 999; -/
def clipped : IVec S1024x26 32 :=
  minsi (broadcastInDim S1024x26 ![] bcast_S_S1024x26 (id (constantI S_ 32 999#32)))
    (maxsi (broadcastInDim S1024x26 ![] bcast_S_S1024x26 (id (constantI S_ 32 0#32)))
      (fptosi 32 (Host.roundeven (mulf x (broadcastInDim S1024x26 ![] bcast_S_S1024x26 (constant S_ .f32 0x4479C000#32))))))

/-- the row numbers, a negative one counted from the table's end; -/
def rowNo : IVec S1024x26x1 32 :=
  broadcastInDim S1024x26x1 ![0, 1] bcast_S1024x26_S1024x26x1_0_1
    (select (cmpi .slt (clipped x) (broadcastInDim S1024x26 ![] bcast_S_S1024x26 (constantI S_ 32 0#32)))
      (addi (clipped x) (broadcastInDim S1024x26 ![] bcast_S_S1024x26 (constantI S_ 32 1000#32))) (clipped x))

/-- whether a row number lies in the table; -/
def inTable : IVec S1024x26 1 :=
  Host.reduce IntOp.andi (andi (cmpi .sge (rowNo x) (broadcastInDim S1024x26x1 ![] bcast_S_S1024x26x1 (constantI S_ 32 0#32)))
      (cmpi .sle (rowNo x) (broadcastInDim S1024x26x1 ![0, 1, 2] bcast_S1x1x1_S1024x26x1_0_1_2
        (broadcastInDim S1x1x1 ![2] bcast_S1_S1x1x1_2 (constantI S1 32 999#32)))))
    (constantI S_ 1 1#1) reducesTo_S1024x26x1_S1024x26_d2 h_S_

/-- the rows taken, an undefined value where the row number does not lie in the table; -/
def taken : FVec Ideal S1024x26x4096 .f32 :=
  select (broadcastInDim S1024x26x4096 ![0, 1] bcast_S1024x26_S1024x26x4096_0_1 (inTable x)) (Host.gather rows v (rowNo x))
    (broadcastInDim S1024x26x4096 ![] bcast_S_S1024x26x4096 (constant S_ .f32 0x7FC00000#32))

/-- and the signs of the sums. -/
def signs : FVec Ideal S1024x4096 .f32 :=
  id (select (cmpf .ogt
      (Host.reduceAdd (mulf (broadcastInDim S1024x26x4096 ![0, 1, 2] bcast_S1x26x4096_S1024x26x4096_0_1_2
          (broadcastInDim S1x26x4096 ![1, 2] bcast_S26x4096_S1x26x4096_1_2 k)) (taken x v))
        (constant S_ .f32 0x00000000#32) reducesTo_S1024x26x4096_S1024x4096_d1 h_S_)
      (broadcastInDim S1024x4096 ![] bcast_S_S1024x4096 (constant S_ .f32 0x00000000#32)))
    (broadcastInDim S1024x4096 ![] bcast_S_S1024x4096 (constant S_ .f32 0x3F800000#32))
    (broadcastInDim S1024x4096 ![] bcast_S_S1024x4096 (constant S_ .f32 0xBF800000#32)))

/-- The reference's result is the last of these stages at its arguments. -/
theorem res_eq (m : (ℓ : Loc nD τ sig) → Buf (Elt Ideal) ℓ) (c : Dev nD) :
    Value.res_out0 m c = signs (m ((c.tc : Thread nD τ).loc main_arg0)) (m ((c.tc : Thread nD τ).loc main_arg1))
      (m ((c.tc : Thread nD τ).loc main_arg2)) := rfl

/-! ## The words that are levels -/

/-- A level is not negative, -/
theorem nonneg_level : ∀ l : Fin 1000, IntOp.cmpi .slt (BitVec.ofNat 32 l.val) 0#32 = 0#1 := by decide +kernel
/-- and is the number of a row of the table. -/
theorem row_level : ∀ l : Fin 1000, IntOp.andi (IntOp.cmpi .sge (BitVec.ofNat 32 l.val) 0#32)
    (IntOp.cmpi .sle (BitVec.ofNat 32 l.val) 999#32) = 1#1 := by decide +kernel

/-! ## The stages at an element -/

variable (b : Fin 1024) (n : Fin 26) (d : Fin 4096)

/-- A clipped quantized input is the input's level; -/
theorem clipped_at : clipped x (ix2 b n) = BitVec.ofNat 32 (Level.level (x (ix2 b n))).val := by
  pointwise [clipped]
  rw [Level.lit_999]
  refine (Level.clip_ofInt _ (Level.wordOf_range 32 (x (ix2 b n)))).trans ?_
  rw [← Level.level_clip 32 (by norm_num), BitVec.ofInt_natCast]

/-- so is the row number, -/
theorem rowNo_at (z : Fin 1) : rowNo x (ix3 b n z) = BitVec.ofNat 32 (Level.level (x (ix2 b n))).val := by
  pointwise [rowNo]
  rw [clipped_at, nonneg_level]
  rfl

/-- which lies in the table; -/
theorem inTable_at : inTable x (ix2 b n) = 1#1 := by
  unfold inTable
  refine Host.reduce_andi_one _ _ _ _ _ rfl fun i => ?_
  obtain ⟨b, n, z, rfl⟩ : ∃ (b : Fin 1024) (n : Fin 26) (z : Fin 1), i = ix3 b n z := ⟨i 0, i 1, i 2, (ix3_eta i).symm⟩
  pointwise
  rw [rowNo_at]
  exact row_level _

/-- so the element taken is the table's at the level. -/
theorem taken_eq : taken x v (ix3 b n d) = v (ix2 (Level.level (x (ix2 b n))) d) := by
  pointwise [taken]
  rw [inTable_at, taken_at v (rowNo x) b n d _ (rowNo_at x b n 0)]
  rfl

/-- An element of the result is the encoding there. -/
theorem signs_at : signs x k v (ix2 b d) = Level.encode (fun n => x (ix2 b n)) (fun n => k (ix2 n d)) fun l => v (ix2 l d) := by
  unfold signs Level.encode
  rw [id_eq]
  pointwise
  rw [Level.lit_neg_one, Finset.sum_congr rfl fun n _ => congrArg (k (ix2 n d) * ·) (taken_eq x v b n d)]

/-- The result is the encoding of every row of inputs. -/
theorem signs_eq : signs x k v = Level.encoded x k v := by
  funext i
  obtain ⟨b, d, rfl⟩ : ∃ (b : Fin 1024) (d : Fin 4096), i = ix2 b d := ⟨i 0, i 1, (ix2_eta i).symm⟩
  exact signs_at x k v b d

end Cert.ReferenceIdeal.Hand
-- ==== Proof.Table.lean ====
/-
  What the precondition says: every column of the table holds 1 or -1, each entry the
  first's or the last's, changing from the first's to the last's once.
-/
module

public import proofs.«01_k».proof.Pre_level_table
public import proofs.«01_k».proof.Proof.Gen.Pre_level_table
public import proofs.«01_k».proof.Proof.Levels
public import Idealize.ShloMosaic.Lib.ReduceAll
public import Idealize.ShloMosaic.Lib.Pointwise
public import Idealize.ShloMosaic.Lib.StableHlo.Predicate

@[expose] public section

set_option maxRecDepth 16384

noncomputable section

namespace Cert.Pre_level_table.Hand

open Idealize.ShloMosaic Idealize.ShloMosaic.Tactic
open Cert.Pre_level_table Cert.Pre_level_table.Facts

variable [Facts] (x : FVec Ideal S1024x26 .f32) (k : FVec Ideal S26x4096 .f32) (v : FVec Ideal S1000x4096 .f32)

/-- A comparison that yields 1 holds. -/
theorem holds {p : Prop} [Decidable p] (h : BitVec.ofBool (decide p) = 1#1) : p :=
  of_decide_eq_true ((StableHlo.Predicate.ofBool_eq_one_iff _).mp h)

/-- Under the precondition every column of the table flips once. -/
theorem columns_flip (h : fn x k v = fun _ => 1#1) (d : Fin 4096) : Level.Flips fun l => v (ix2 l d) := by
  have h0 := congrFun h ix0
  unfold fn at h0
  dsimp only at h0
  have b := fun l : Fin 1000 => Host.reduce_andi_all _ _ _ _ _ h0 (ix2 l d)
  clear h0
  refine ⟨fun l => ?_, fun l => ?_, fun l hl => ?_⟩
  · have e := (IntOp.andi_eq_one.mp (IntOp.andi_eq_one.mp (b l)).1).1
    pointwise at e
    rw [Level.lit_neg_one] at e
    exact (IntOp.ori_eq_one.mp e).imp holds holds
  · have e := (IntOp.andi_eq_one.mp (IntOp.andi_eq_one.mp (b l)).1).2
    pointwise at e
    exact (IntOp.ori_eq_one.mp e).imp holds holds
  · have e := (IntOp.andi_eq_one.mp (b ⟨l, by omega⟩)).2
    pointwise at e
    rw [dif_pos (show l < 999 by omega)] at e
    have hl' : (⟨1 + l, by omega⟩ : Fin 1000) = ⟨l + 1, hl⟩ := Fin.ext (Nat.add_comm 1 l)
    exact (IntOp.ori_eq_one.mp e).imp holds fun h => hl' ▸ holds h

end Cert.Pre_level_table.Hand
-- ==== Proof.Equation.lean ====
/-
  The equality of results: under the precondition the kernel and the reference, run on the same arguments, both end with
  the encoding of every row of inputs.
-/
module

public import proofs.«01_k».proof.Proof.Array
public import proofs.«01_k».proof.Proof.Reference
public import proofs.«01_k».proof.Proof.Table
public import proofs.«01_k».proof.Proof.Frames

@[expose] public section

noncomputable section

namespace Cert.Equation

open Idealize.ShloMosaic Idealize.ShloMosaic.TcCoe Idealize.SL.Sem

/-- The result on core `c`: the encoding of the arguments the kernel is launched with. -/
abbrev result (m : (ℓ : Loc KernelIdeal.nD KernelIdeal.τ KernelIdeal.sig) → Buf (Elt Ideal) ℓ) (c : Dev KernelIdeal.nD) :
    Buf (Elt Ideal) ((c : Thread KernelIdeal.nD KernelIdeal.τ).loc KernelIdeal.main_v0) :=
  Level.encoded (KernelIdeal.Hand.inputs m c) (KernelIdeal.Hand.keys m c) (KernelIdeal.Hand.levels m c)

/-- Under the precondition the kernel leaves it; -/
theorem kernel_result (m : (ℓ : Loc KernelIdeal.nD KernelIdeal.τ KernelIdeal.sig) → Buf (Elt Ideal) ℓ) (c : Dev KernelIdeal.nD)
    (h : Pre_KernelIdeal_level_table m) : KernelIdeal.Hand.outArr m c = result m c :=
  KernelIdeal.Hand.outArr_eq m c
    (Pre_level_table.Hand.columns_flip _ _ _ (h c))

/-- and so does the reference, launched on the same arguments and under no precondition. -/
theorem reference_result (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = KernelIdeal.Hand.inputs m c)
    (h1 : m' ((c.tc : Thread ReferenceIdeal.nD ReferenceIdeal.τ).loc ReferenceIdeal.main_arg1) = KernelIdeal.Hand.keys m c)
    (h2 : m' ((c.tc : Thread ReferenceIdeal.nD ReferenceIdeal.τ).loc ReferenceIdeal.main_arg2) = KernelIdeal.Hand.levels m c) :
    ReferenceIdeal.Value.res_out0 m' c = result m c := by
  rw [ReferenceIdeal.Hand.res_eq, h0, h1, h2]
  exact ReferenceIdeal.Hand.signs_eq _ _ _

/-- The kernel over the extended reals computes what the reference does. -/
theorem algebraic : algebraic_KernelIdeal_ReferenceIdeal_pre_level_table := fun m g m' g' h hagree =>
  ⟨result m,
    (θ_run _ _ _).mono (fun _ r c => ⟨((r.1 c).1).trans (kernel_result m c h), (r.1 c).2⟩) (KernelIdeal.Hand.run_value m g),
    (θ_run _ _ _).mono (fun _ r c => ⟨((r c).1).trans
      (reference_result m m' c (hagree c).1 (hagree c).2.1 (hagree c).2.2), (r c).2⟩) (ReferenceIdeal.Value.run m' g')⟩

/-- The frames under the precondition are the frames. -/
theorem kernelIdeal_pre : quiescent_KernelIdeal_pre_level_table := fun m g _ => Frames.kernelIdeal m g trivial
theorem referenceIdeal_pre : quiescent_ReferenceIdeal_pre_level_table := fun m g _ => Frames.referenceIdeal m g trivial

end Cert.Equation

end
-- ==== Proof.lean ====
/-
  The certificate: the frames of the kernel and of the reference, and the equality of their results, put together from
  the modules under `Proof/`.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_level_table
public import proofs.«01_k».proof.Proof.Frames
public import proofs.«01_k».proof.Proof.Equation

@[expose] public section

noncomputable section

namespace Cert.Proof

theorem claim : Cert.Claim := ⟨Cert.Kernel.Gen.facts, Cert.KernelIdeal.Gen.facts, Cert.ReferenceIdeal.Gen.facts,
  Cert.Pre_level_table.Gen.facts, Cert.Frames.kernel, Cert.Frames.kernelIdeal, Cert.Equation.kernelIdeal_pre,
  Cert.Frames.referenceIdeal, Cert.Equation.referenceIdeal_pre, trivial, Cert.Equation.algebraic⟩

end Cert.Proof

end
